-- ==== Defs.lean ====
def Pre_Kernel [hPre_taps_in_map : Cert.Pre_taps_in_map.Facts] (m : (ℓ : Loc Cert.Kernel.nD Cert.Kernel.τ Cert.Kernel.sig) → Buf (Elt Bits) ℓ) : Prop :=
  ∀ c : Dev Cert.Kernel.nD,
    (Cert.Pre_taps_in_map.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_taps_in_map : Cert.Pre_taps_in_map.Facts] (m : (ℓ : Loc Cert.KernelIdeal.nD Cert.KernelIdeal.τ Cert.KernelIdeal.sig) → Buf (Elt Ideal) ℓ) : Prop :=
  ∀ c : Dev Cert.KernelIdeal.nD,
    (Cert.Pre_taps_in_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite_views [hPre_finite_views : Cert.Pre_finite_views.Facts] (m : (ℓ : Loc Cert.KernelIdeal.nD Cert.KernelIdeal.τ Cert.KernelIdeal.sig) → Buf (Elt Ideal) ℓ) : Prop :=
  ∀ c : Dev Cert.KernelIdeal.nD,
    (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_finite_views.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_views [hPre_finite_views : Cert.Pre_finite_views.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_finite_views.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2 = (fun _ => 1#1)

def quiescent_Kernel [hKernel : Cert.Kernel.Facts] [hPre_taps_in_map : Cert.Pre_taps_in_map.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_taps_in_map : Cert.Pre_taps_in_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_views [hKernelIdeal : Cert.KernelIdeal.Facts] [hPre_finite_views : Cert.Pre_finite_views.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_views m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_views [hReferenceIdeal : Cert.ReferenceIdeal.Facts] [hPre_finite_views : Cert.Pre_finite_views.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_views m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_views [hKernelIdeal : Cert.KernelIdeal.Facts] [hReferenceIdeal : Cert.ReferenceIdeal.Facts] [hPre_finite_views : Cert.Pre_finite_views.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_views m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_taps_in_map : Cert.Pre_taps_in_map.Facts) (hPre_finite_views : Cert.Pre_finite_views.Facts),
    quiescent_Kernel (hKernel := hKernel) (hPre_taps_in_map := hPre_taps_in_map)
    ∧ quiescent_KernelIdeal (hKernelIdeal := hKernelIdeal) (hPre_taps_in_map := hPre_taps_in_map)
    ∧ quiescent_KernelIdeal_pre_finite_views (hKernelIdeal := hKernelIdeal) (hPre_finite_views := hPre_finite_views)
    ∧ quiescent_ReferenceIdeal (hReferenceIdeal := hReferenceIdeal)
    ∧ quiescent_ReferenceIdeal_pre_finite_views (hReferenceIdeal := hReferenceIdeal) (hPre_finite_views := hPre_finite_views)
    ∧ preserves_Kernel_KernelIdeal
    ∧ algebraic_KernelIdeal_ReferenceIdeal_pre_finite_views (hKernelIdeal := hKernelIdeal) (hReferenceIdeal := hReferenceIdeal) (hPre_finite_views := hPre_finite_views)
-- ==== Pre_finite_views.lean ====
abbrev S1024x4 : Shape := ⟨2, ![1024, 4]⟩
abbrev S2x64x60x80 : Shape := ⟨4, ![2, 64, 60, 80]⟩
abbrev S2x3x3 : Shape := ⟨3, ![2, 3, 3]⟩
abbrev S2x1x480x640 : Shape := ⟨4, ![2, 1, 480, 640]⟩
abbrev S1024x1 : Shape := ⟨2, ![1024, 1]⟩
abbrev S1024 : Shape := ⟨1, ![1024]⟩
abbrev S80 : Shape := ⟨1, ![80]⟩
abbrev S_ : Shape := ⟨0, ![]⟩
abbrev S60 : Shape := ⟨1, ![60]⟩
abbrev S2x1x1 : Shape := ⟨3, ![2, 1, 1]⟩
abbrev S2 : Shape := ⟨1, ![2]⟩
abbrev S1x1x80 : Shape := ⟨3, ![1, 1, 80]⟩
abbrev S2x1x80 : Shape := ⟨3, ![2, 1, 80]⟩
abbrev S1x60x1 : Shape := ⟨3, ![1, 60, 1]⟩
abbrev S2x60x1 : Shape := ⟨3, ![2, 60, 1]⟩
abbrev S2x60x80 : Shape := ⟨3, ![2, 60, 80]⟩
abbrev S2x60x8x80x8 : Shape := ⟨5, ![2, 60, 8, 80, 8]⟩
abbrev S2x60x1x80x1 : Shape := ⟨5, ![2, 60, 1, 80, 1]⟩
abbrev S1024x2 : Shape := ⟨2, ![1024, 2]⟩

class Facts : Prop where
  slices_S1024x4_S1024x1_0_0 : S1024x4.Slices ![0, 0] S1024x1
  shapeCasts_S1024x1_S1024 : S1024x1.ShapeCasts S1024
  bcast_S_S80 : S_.BroadcastsInDim S80 (![] : Fin 0 → Fin S80.rank)
  bcast_S_S60 : S_.BroadcastsInDim S60 (![] : Fin 0 → Fin S60.rank)
  slices_S2x3x3_S2x1x1_0_2_0 : S2x3x3.Slices ![0, 2, 0] S2x1x1
  shapeCasts_S2x1x1_S2 : S2x1x1.ShapeCasts S2
  bcast_S2_S2x1x1_0 : S2.BroadcastsInDim S2x1x1 (![0] : Fin 1 → Fin S2x1x1.rank)
  bcast_S80_S1x1x80_2 : S80.BroadcastsInDim S1x1x80 (![2] : Fin 1 → Fin S1x1x80.rank)
  bcast_S2x1x1_S2x1x80_0_1_2 : S2x1x1.BroadcastsInDim S2x1x80 (![0, 1, 2] : Fin 3 → Fin S2x1x80.rank)
  bcast_S1x1x80_S2x1x80_0_1_2 : S1x1x80.BroadcastsInDim S2x1x80 (![0, 1, 2] : Fin 3 → Fin S2x1x80.rank)
  slices_S2x3x3_S2x1x1_0_2_1 : S2x3x3.Slices ![0, 2, 1] S2x1x1
  bcast_S60_S1x60x1_1 : S60.BroadcastsInDim S1x60x1 (![1] : Fin 1 → Fin S1x60x1.rank)
  bcast_S2x1x1_S2x60x1_0_1_2 : S2x1x1.BroadcastsInDim S2x60x1 (![0, 1, 2] : Fin 3 → Fin S2x60x1.rank)
  bcast_S1x60x1_S2x60x1_0_1_2 : S1x60x1.BroadcastsInDim S2x60x1 (![0, 1, 2] : Fin 3 → Fin S2x60x1.rank)
  bcast_S2x1x80_S2x60x80_0_1_2 : S2x1x80.BroadcastsInDim S2x60x80 (![0, 1, 2] : Fin 3 → Fin S2x60x80.rank)
  bcast_S2x60x1_S2x60x80_0_1_2 : S2x60x1.BroadcastsInDim S2x60x80 (![0, 1, 2] : Fin 3 → Fin S2x60x80.rank)
  slices_S2x3x3_S2x1x1_0_2_2 : S2x3x3.Slices ![0, 2, 2] S2x1x1
  bcast_S2x1x1_S2x60x80_0_1_2 : S2x1x1.BroadcastsInDim S2x60x80 (![0, 1, 2] : Fin 3 → Fin S2x60x80.rank)
  shapeCasts_S2x1x480x640_S2x60x8x80x8 : S2x1x480x640.ShapeCasts S2x60x8x80x8
  slices_S2x60x8x80x8_S2x60x1x80x1_0_0_0_0_0 : S2x60x8x80x8.Slices ![0, 0, 0, 0, 0] S2x60x1x80x1
  bcast_S_S1024 : S_.BroadcastsInDim S1024 (![] : Fin 0 → Fin S1024.rank)
  slices_S1024x4_S1024x2_0_2 : S1024x4.Slices ![0, 2] S1024x2
  bcast_S_S1024x2 : S_.BroadcastsInDim S1024x2 (![] : Fin 0 → Fin S1024x2.rank)
  bcast_S_S2x64x60x80 : S_.BroadcastsInDim S2x64x60x80 (![] : Fin 0 → Fin S2x64x60x80.rank)
  bcast_S_S2x3x3 : S_.BroadcastsInDim S2x3x3 (![] : Fin 0 → Fin S2x3x3.rank)
  bcast_S_S2x60x80 : S_.BroadcastsInDim S2x60x80 (![] : Fin 0 → Fin S2x60x80.rank)
  bcast_S_S2x60x1x80x1 : S_.BroadcastsInDim S2x60x1x80x1 (![] : Fin 0 → Fin S2x60x1x80x1.rank)
  bcast_S2x60x1x80x1_S2x60x8x80x8_0_1_2_3_4 : S2x60x1x80x1.BroadcastsInDim S2x60x8x80x8 (![0, 1, 2, 3, 4] : Fin 5 → Fin S2x60x8x80x8.rank)

variable [Facts]

def fn_part3 {F : FTy → Type} [FloatOps F] (main_v37 : FVec F S2x60x8x80x8 .f32) (main_v38 : FVec F S2x60x1x80x1 .f32) (main_v43 : IVec S1024 1) (main_v47 : IVec S1024x2 1) (main_v50 : IVec S2x64x60x80 1) (main_v53 : IVec S2x64x60x80 1) (main_v56 : IVec S2x3x3 1) (main_v58 : IVec S2x60x80 1) (main_v59 : FVec F S2x60x1x80x1 .f32) : IVec S1024 1 × IVec S1024x2 1 × IVec S2x64x60x80 1 × IVec S2x64x60x80 1 × IVec S2x3x3 1 × IVec S2x60x80 1 × IVec S2x60x1x80x1 1 × IVec S2x60x8x80x8 1 :=
  let main_v60 : IVec S2x60x1x80x1 1 := cmpf .oeq main_v38 main_v59
  let main_cst_10 : FVec F S_ .f32 := constant S_ .f32 0x3F800000#32
  let main_v61 : FVec F S2x60x1x80x1 .f32 := broadcastInDim S2x60x1x80x1 ![] bcast_S_S2x60x1x80x1 main_cst_10
  let main_v62 : IVec S2x60x1x80x1 1 := cmpf .oeq main_v38 main_v61
  let main_v63 : IVec S2x60x1x80x1 1 := ori main_v60 main_v62
  let main_v64 : FVec F S2x60x8x80x8 .f32 := broadcastInDim S2x60x8x80x8 ![0, 1, 2, 3, 4] bcast_S2x60x1x80x1_S2x60x8x80x8_0_1_2_3_4 main_v38
  let main_v65 : IVec S2x60x8x80x8 1 := cmpf .oeq main_v37 main_v64
  (main_v43, main_v47, main_v50, main_v53, main_v56, main_v58, main_v63, main_v65)

def fn_part2 {F : FTy → Type} [FloatOps F] (main_arg0 : FVec F S1024x4 .f32) (main_arg1 : FVec F S2x64x60x80 .f32) (main_arg2 : FVec F S2x64x60x80 .f32) (main_arg3 : FVec F S2x3x3 .f32) (main_v2 : IVec S1024 32) (main_v36 : FVec F S2x60x80 .f32) (main_v37 : FVec F S2x60x8x80x8 .f32) (main_v38 : FVec F S2x60x1x80x1 .f32) (main_v40 : IVec S1024 1) (main_v41 : IVec S1024 32) : IVec S1024 1 × IVec S1024x2 1 × IVec S2x64x60x80 1 × IVec S2x64x60x80 1 × IVec S2x3x3 1 × IVec S2x60x80 1 × IVec S2x60x1x80x1 1 × IVec S2x60x8x80x8 1 :=
  let main_v42 : IVec S1024 1 := cmpi .slt main_v2 main_v41
  let main_v43 : IVec S1024 1 := andi main_v40 main_v42
  let main_v44 : FVec F S1024x2 .f32 := (extractStridedSlice S1024x2 ![0, 2] · slices_S1024x4_S1024x2_0_2) main_arg0
  let main_v45 : FVec F S1024x2 .f32 := Host.absf main_v44
  let main_cst_4 : FVec F S_ .f32 := constant S_ .f32 0x7F800000#32
  let main_v46 : FVec F S1024x2 .f32 := broadcastInDim S1024x2 ![] bcast_S_S1024x2 main_cst_4
  let main_v47 : IVec S1024x2 1 := cmpf .olt main_v45 main_v46
  let main_v48 : FVec F S2x64x60x80 .f32 := Host.absf main_arg1
  let main_cst_5 : FVec F S_ .f32 := constant S_ .f32 0x7F800000#32
  let main_v49 : FVec F S2x64x60x80 .f32 := broadcastInDim S2x64x60x80 ![] bcast_S_S2x64x60x80 main_cst_5
  let main_v50 : IVec S2x64x60x80 1 := cmpf .olt main_v48 main_v49
  let main_v51 : FVec F S2x64x60x80 .f32 := Host.absf main_arg2
  let main_cst_6 : FVec F S_ .f32 := constant S_ .f32 0x7F800000#32
  let main_v52 : FVec F S2x64x60x80 .f32 := broadcastInDim S2x64x60x80 ![] bcast_S_S2x64x60x80 main_cst_6
  let main_v53 : IVec S2x64x60x80 1 := cmpf .olt main_v51 main_v52
  let main_v54 : FVec F S2x3x3 .f32 := Host.absf main_arg3
  let main_cst_7 : FVec F S_ .f32 := constant S_ .f32 0x7F800000#32
  let main_v55 : FVec F S2x3x3 .f32 := broadcastInDim S2x3x3 ![] bcast_S_S2x3x3 main_cst_7
  let main_v56 : IVec S2x3x3 1 := cmpf .olt main_v54 main_v55
  let main_cst_8 : FVec F S_ .f32 := constant S_ .f32 0x00000000#32
  let main_v57 : FVec F S2x60x80 .f32 := broadcastInDim S2x60x80 ![] bcast_S_S2x60x80 main_cst_8
  let main_v58 : IVec S2x60x80 1 := cmpf .une main_v36 main_v57
  let main_cst_9 : FVec F S_ .f32 := constant S_ .f32 0x00000000#32
  let main_v59 : FVec F S2x60x1x80x1 .f32 := broadcastInDim S2x60x1x80x1 ![] bcast_S_S2x60x1x80x1 main_cst_9
  fn_part3 (F := F) main_v37 main_v38 main_v43 main_v47 main_v50 main_v53 main_v56 main_v58 main_v59

def fn_part1 {F : FTy → Type} [FloatOps F] (main_arg0 : FVec F S1024x4 .f32) (main_arg1 : FVec F S2x64x60x80 .f32) (main_arg2 : FVec F S2x64x60x80 .f32) (main_arg3 : FVec F S2x3x3 .f32) (main_arg4 : FVec F S2x1x480x640 .f32) (main_v2 : IVec S1024 32) (main_v14 : FVec F S60 .f32) (main_v18 : FVec F S1x1x80 .f32) (main_v19 : FVec F S2x1x80 .f32) : IVec S1024 1 × IVec S1024x2 1 × IVec S2x64x60x80 1 × IVec S2x64x60x80 1 × IVec S2x3x3 1 × IVec S2x60x80 1 × IVec S2x60x1x80x1 1 × IVec S2x60x8x80x8 1 :=
  let main_v20 : FVec F S2x1x80 .f32 := broadcastInDim S2x1x80 ![0, 1, 2] bcast_S1x1x80_S2x1x80_0_1_2 main_v18
  let main_v21 : FVec F S2x1x80 .f32 := mulf main_v19 main_v20
  let main_v22 : FVec F S2x1x1 .f32 := (extractStridedSlice S2x1x1 ![0, 2, 1] · slices_S2x3x3_S2x1x1_0_2_1) main_arg3
  let main_v23 : FVec F S2 .f32 := shapeCast S2 main_v22 shapeCasts_S2x1x1_S2
  let main_v24 : FVec F S2x1x1 .f32 := broadcastInDim S2x1x1 ![0] bcast_S2_S2x1x1_0 main_v23
  let main_v25 : FVec F S1x60x1 .f32 := broadcastInDim S1x60x1 ![1] bcast_S60_S1x60x1_1 main_v14
  let main_v26 : FVec F S2x60x1 .f32 := broadcastInDim S2x60x1 ![0, 1, 2] bcast_S2x1x1_S2x60x1_0_1_2 main_v24
  let main_v27 : FVec F S2x60x1 .f32 := broadcastInDim S2x60x1 ![0, 1, 2] bcast_S1x60x1_S2x60x1_0_1_2 main_v25
  let main_v28 : FVec F S2x60x1 .f32 := mulf main_v26 main_v27
  let main_v29 : FVec F S2x60x80 .f32 := broadcastInDim S2x60x80 ![0, 1, 2] bcast_S2x1x80_S2x60x80_0_1_2 main_v21
  let main_v30 : FVec F S2x60x80 .f32 := broadcastInDim S2x60x80 ![0, 1, 2] bcast_S2x60x1_S2x60x80_0_1_2 main_v28
  let main_v31 : FVec F S2x60x80 .f32 := addf main_v29 main_v30
  let main_v32 : FVec F S2x1x1 .f32 := (extractStridedSlice S2x1x1 ![0, 2, 2] · slices_S2x3x3_S2x1x1_0_2_2) main_arg3
  let main_v33 : FVec F S2 .f32 := shapeCast S2 main_v32 shapeCasts_S2x1x1_S2
  let main_v34 : FVec F S2x1x1 .f32 := broadcastInDim S2x1x1 ![0] bcast_S2_S2x1x1_0 main_v33
  let main_v35 : FVec F S2x60x80 .f32 := broadcastInDim S2x60x80 ![0, 1, 2] bcast_S2x1x1_S2x60x80_0_1_2 main_v34
  let main_v36 : FVec F S2x60x80 .f32 := addf main_v31 main_v35
  let main_v37 : FVec F S2x60x8x80x8 .f32 := shapeCast S2x60x8x80x8 main_arg4 shapeCasts_S2x1x480x640_S2x60x8x80x8
  let main_v38 : FVec F S2x60x1x80x1 .f32 := (extractStridedSlice S2x60x1x80x1 ![0, 0, 0, 0, 0] · slices_S2x60x8x80x8_S2x60x1x80x1_0_0_0_0_0) main_v37
  let main_c : IVec S_ 32 := constantI S_ 32 0#32
  let main_v39 : IVec S1024 32 := broadcastInDim S1024 ![] bcast_S_S1024 main_c
  let main_v40 : IVec S1024 1 := cmpi .sge main_v2 main_v39
  let main_c_3 : IVec S_ 32 := constantI S_ 32 2#32
  let main_v41 : IVec S1024 32 := broadcastInDim S1024 ![] bcast_S_S1024 main_c_3
  fn_part2 (F := F) main_arg0 main_arg1 main_arg2 main_arg3 main_v2 main_v36 main_v37 main_v38 main_v40 main_v41

def fn {F : FTy → Type} [FloatOps F] (main_arg0 : FVec F S1024x4 .f32) (main_arg1 : FVec F S2x64x60x80 .f32) (main_arg2 : FVec F S2x64x60x80 .f32) (main_arg3 : FVec F S2x3x3 .f32) (main_arg4 : FVec F S2x1x480x640 .f32) : IVec S1024 1 × IVec S1024x2 1 × IVec S2x64x60x80 1 × IVec S2x64x60x80 1 × IVec S2x3x3 1 × IVec S2x60x80 1 × IVec S2x60x1x80x1 1 × IVec S2x60x8x80x8 1 :=
  let main_v0 : FVec F S1024x1 .f32 := (extractStridedSlice S1024x1 ![0, 0] · slices_S1024x4_S1024x1_0_0) main_arg0
  let main_v1 : FVec F S1024 .f32 := shapeCast S1024 main_v0 shapeCasts_S1024x1_S1024
  let main_v2 : IVec S1024 32 := fptosi 32 main_v1
  let main_v3 : IVec S80 32 := iotaInDim S80 32 0
  let main_v4 : FVec F S80 .f32 := sitofp .f32 main_v3
  let main_cst : FVec F S_ .f32 := constant S_ .f32 0x41000000#32
  let main_v5 : FVec F S80 .f32 := broadcastInDim S80 ![] bcast_S_S80 main_cst
  let main_v6 : FVec F S80 .f32 := mulf main_v4 main_v5
  let main_cst_0 : FVec F S_ .f32 := constant S_ .f32 0x40800000#32
  let main_v7 : FVec F S80 .f32 := broadcastInDim S80 ![] bcast_S_S80 main_cst_0
  let main_v8 : FVec F S80 .f32 := addf main_v6 main_v7
  let main_v9 : IVec S60 32 := iotaInDim S60 32 0
  let main_v10 : FVec F S60 .f32 := sitofp .f32 main_v9
  let main_cst_1 : FVec F S_ .f32 := constant S_ .f32 0x41000000#32
  let main_v11 : FVec F S60 .f32 := broadcastInDim S60 ![] bcast_S_S60 main_cst_1
  let main_v12 : FVec F S60 .f32 := mulf main_v10 main_v11
  let main_cst_2 : FVec F S_ .f32 := constant S_ .f32 0x40800000#32
  let main_v13 : FVec F S60 .f32 := broadcastInDim S60 ![] bcast_S_S60 main_cst_2
  let main_v14 : FVec F S60 .f32 := addf main_v12 main_v13
  let main_v15 : FVec F S2x1x1 .f32 := (extractStridedSlice S2x1x1 ![0, 2, 0] · slices_S2x3x3_S2x1x1_0_2_0) main_arg3
  let main_v16 : FVec F S2 .f32 := shapeCast S2 main_v15 shapeCasts_S2x1x1_S2
  let main_v17 : FVec F S2x1x1 .f32 := broadcastInDim S2x1x1 ![0] bcast_S2_S2x1x1_0 main_v16
  let main_v18 : FVec F S1x1x80 .f32 := broadcastInDim S1x1x80 ![2] bcast_S80_S1x1x80_2 main_v8
  let main_v19 : FVec F S2x1x80 .f32 := broadcastInDim S2x1x80 ![0, 1, 2] bcast_S2x1x1_S2x1x80_0_1_2 main_v17
  fn_part1 (F := F) main_arg0 main_arg1 main_arg2 main_arg3 main_arg4 main_v2 main_v14 main_v18 main_v19
-- ==== Pre_taps_in_map.lean ====
abbrev S1024x4 : Shape := ⟨2, ![1024, 4]⟩
abbrev S2x64x60x80 : Shape := ⟨4, ![2, 64, 60, 80]⟩
abbrev S2x3x3 : Shape := ⟨3, ![2, 3, 3]⟩
abbrev S2x1x480x640 : Shape := ⟨4, ![2, 1, 480, 640]⟩
abbrev S1024x1 : Shape := ⟨2, ![1024, 1]⟩
abbrev S1024 : Shape := ⟨1, ![1024]⟩
abbrev S_ : Shape := ⟨0, ![]⟩

class Facts : Prop where
  slices_S1024x4_S1024x1_0_3 : S1024x4.Slices ![0, 3] S1024x1
  shapeCasts_S1024x1_S1024 : S1024x1.ShapeCasts S1024
  bcast_S_S1024 : S_.BroadcastsInDim S1024 (![] : Fin 0 → Fin S1024.rank)
  slices_S1024x4_S1024x1_0_2 : S1024x4.Slices ![0, 2] S1024x1
  slices_S1024x4_S1024x1_0_0 : S1024x4.Slices ![0, 0] S1024x1

variable [Facts]

def fn_clip {F : FTy → Type} [FloatOps F] (arg0 : FVec F S1024 .f32) (arg1 : FVec F S_ .f32) (arg2 : FVec F S_ .f32) : FVec F S1024 .f32 :=
  let v0 : FVec F S_ .f32 := id arg1
  let v1 : FVec F S1024 .f32 := broadcastInDim S1024 ![] bcast_S_S1024 v0
  let v2 : FVec F S1024 .f32 := maximumf v1 arg0
  let v3 : FVec F S_ .f32 := id arg2
  let v4 : FVec F S1024 .f32 := broadcastInDim S1024 ![] bcast_S_S1024 v3
  let v5 : FVec F S1024 .f32 := minimumf v4 v2
  v5

def fn_part3 {F : FTy → Type} [FloatOps F] (main_v28 : IVec S1024 32) (main_v51 : IVec S1024 1) (main_v52 : IVec S1024 32) : IVec S1024 1 :=
  let main_v53 : IVec S1024 1 := cmpi .sge main_v28 main_v52
  let main_v54 : IVec S1024 1 := andi main_v51 main_v53
  let main_c_17 : IVec S_ 32 := constantI S_ 32 60#32
  let main_v55 : IVec S1024 32 := broadcastInDim S1024 ![] bcast_S_S1024 main_c_17
  let main_v56 : IVec S1024 1 := cmpi .slt main_v28 main_v55
  let main_v57 : IVec S1024 1 := andi main_v54 main_v56
  main_v57

def fn_part2 {F : FTy → Type} [FloatOps F] (main_v14 : IVec S1024 32) (main_v16 : IVec S1024 32) (main_v22 : IVec S1024 32) (main_v28 : IVec S1024 32) (main_v33 : IVec S1024 1) (main_v34 : IVec S1024 32) : IVec S1024 1 :=
  let main_v35 : IVec S1024 1 := cmpi .sge main_v14 main_v34
  let main_v36 : IVec S1024 1 := andi main_v33 main_v35
  let main_c_11 : IVec S_ 32 := constantI S_ 32 80#32
  let main_v37 : IVec S1024 32 := broadcastInDim S1024 ![] bcast_S_S1024 main_c_11
  let main_v38 : IVec S1024 1 := cmpi .slt main_v14 main_v37
  let main_v39 : IVec S1024 1 := andi main_v36 main_v38
  let main_c_12 : IVec S_ 32 := constantI S_ 32 0#32
  let main_v40 : IVec S1024 32 := broadcastInDim S1024 ![] bcast_S_S1024 main_c_12
  let main_v41 : IVec S1024 1 := cmpi .sge main_v16 main_v40
  let main_v42 : IVec S1024 1 := andi main_v39 main_v41
  let main_c_13 : IVec S_ 32 := constantI S_ 32 60#32
  let main_v43 : IVec S1024 32 := broadcastInDim S1024 ![] bcast_S_S1024 main_c_13
  let main_v44 : IVec S1024 1 := cmpi .slt main_v16 main_v43
  let main_v45 : IVec S1024 1 := andi main_v42 main_v44
  let main_c_14 : IVec S_ 32 := constantI S_ 32 0#32
  let main_v46 : IVec S1024 32 := broadcastInDim S1024 ![] bcast_S_S1024 main_c_14
  let main_v47 : IVec S1024 1 := cmpi .sge main_v22 main_v46
  let main_v48 : IVec S1024 1 := andi main_v45 main_v47
  let main_c_15 : IVec S_ 32 := constantI S_ 32 80#32
  let main_v49 : IVec S1024 32 := broadcastInDim S1024 ![] bcast_S_S1024 main_c_15
  let main_v50 : IVec S1024 1 := cmpi .slt main_v22 main_v49
  let main_v51 : IVec S1024 1 := andi main_v48 main_v50
  let main_c_16 : IVec S_ 32 := constantI S_ 32 0#32
  let main_v52 : IVec S1024 32 := broadcastInDim S1024 ![] bcast_S_S1024 main_c_16
  fn_part3 (F := F) main_v28 main_v51 main_v52

def fn_part1 {F : FTy → Type} [FloatOps F] (main_v9 : FVec F S1024 .f32) (main_v12 : IVec S1024 32) (main_v14 : IVec S1024 32) (main_v16 : IVec S1024 32) (main_v17 : FVec F S1024 .f32) : IVec S1024 1 :=
  let main_cst_5 : FVec F S_ .f32 := constant S_ .f32 0x3F800000#32
  let main_v18 : FVec F S1024 .f32 := broadcastInDim S1024 ![] bcast_S_S1024 main_cst_5
  let main_v19 : FVec F S1024 .f32 := addf main_v17 main_v18
  let main_cst_6 : FVec F S_ .f32 := constant S_ .f32 0x429E0000#32
  let main_v20 : FVec F S1024 .f32 := broadcastInDim S1024 ![] bcast_S_S1024 main_cst_6
  let main_v21 : FVec F S1024 .f32 := minimumf main_v19 main_v20
  let main_v22 : IVec S1024 32 := fptosi 32 main_v21
  let main_v23 : FVec F S1024 .f32 := Host.floor main_v9
  let main_cst_7 : FVec F S_ .f32 := constant S_ .f32 0x3F800000#32
  let main_v24 : FVec F S1024 .f32 := broadcastInDim S1024 ![] bcast_S_S1024 main_cst_7
  let main_v25 : FVec F S1024 .f32 := addf main_v23 main_v24
  let main_cst_8 : FVec F S_ .f32 := constant S_ .f32 0x426C0000#32
  let main_v26 : FVec F S1024 .f32 := broadcastInDim S1024 ![] bcast_S_S1024 main_cst_8
  let main_v27 : FVec F S1024 .f32 := minimumf main_v25 main_v26
  let main_v28 : IVec S1024 32 := fptosi 32 main_v27
  let main_c : IVec S_ 32 := constantI S_ 32 0#32
  let main_v29 : IVec S1024 32 := broadcastInDim S1024 ![] bcast_S_S1024 main_c
  let main_v30 : IVec S1024 1 := cmpi .sge main_v12 main_v29
  let main_c_9 : IVec S_ 32 := constantI S_ 32 2#32
  let main_v31 : IVec S1024 32 := broadcastInDim S1024 ![] bcast_S_S1024 main_c_9
  let main_v32 : IVec S1024 1 := cmpi .slt main_v12 main_v31
  let main_v33 : IVec S1024 1 := andi main_v30 main_v32
  let main_c_10 : IVec S_ 32 := constantI S_ 32 0#32
  let main_v34 : IVec S1024 32 := broadcastInDim S1024 ![] bcast_S_S1024 main_c_10
  fn_part2 (F := F) main_v14 main_v16 main_v22 main_v28 main_v33 main_v34

def fn {F : FTy → Type} [FloatOps F] (main_arg0 : FVec F S1024x4 .f32) (main_arg1 : FVec F S2x64x60x80 .f32) (main_arg2 : FVec F S2x64x60x80 .f32) (main_arg3 : FVec F S2x3x3 .f32) (main_arg4 : FVec F S2x1x480x640 .f32) : IVec S1024 1 :=
  let main_v0 : FVec F S1024x1 .f32 := (extractStridedSlice S1024x1 ![0, 3] · slices_S1024x4_S1024x1_0_3) main_arg0
  let main_v1 : FVec F S1024 .f32 := shapeCast S1024 main_v0 shapeCasts_S1024x1_S1024
  let main_cst : FVec F S_ .f32 := constant S_ .f32 0x41000000#32
  let main_v2 : FVec F S1024 .f32 := broadcastInDim S1024 ![] bcast_S_S1024 main_cst
  let main_v3 : FVec F S1024 .f32 := Host.divf main_v1 main_v2
  let main_cst_0 : FVec F S_ .f32 := constant S_ .f32 0x00000000#32
  let main_cst_1 : FVec F S_ .f32 := constant S_ .f32 0x429E0000#32
  let main_v4 : FVec F S1024 .f32 := fn_clip (F := F) main_v3 main_cst_0 main_cst_1
  let main_v5 : FVec F S1024x1 .f32 := (extractStridedSlice S1024x1 ![0, 2] · slices_S1024x4_S1024x1_0_2) main_arg0
  let main_v6 : FVec F S1024 .f32 := shapeCast S1024 main_v5 shapeCasts_S1024x1_S1024
  let main_cst_2 : FVec F S_ .f32 := constant S_ .f32 0x41000000#32
  let main_v7 : FVec F S1024 .f32 := broadcastInDim S1024 ![] bcast_S_S1024 main_cst_2
  let main_v8 : FVec F S1024 .f32 := Host.divf main_v6 main_v7
  let main_cst_3 : FVec F S_ .f32 := constant S_ .f32 0x00000000#32
  let main_cst_4 : FVec F S_ .f32 := constant S_ .f32 0x426C0000#32
  let main_v9 : FVec F S1024 .f32 := fn_clip (F := F) main_v8 main_cst_3 main_cst_4
  let main_v10 : FVec F S1024x1 .f32 := (extractStridedSlice S1024x1 ![0, 0] · slices_S1024x4_S1024x1_0_0) main_arg0
  let main_v11 : FVec F S1024 .f32 := shapeCast S1024 main_v10 shapeCasts_S1024x1_S1024
  let main_v12 : IVec S1024 32 := fptosi 32 main_v11
  let main_v13 : FVec F S1024 .f32 := Host.floor main_v4
  let main_v14 : IVec S1024 32 := fptosi 32 main_v13
  let main_v15 : FVec F S1024 .f32 := Host.floor main_v9
  let main_v16 : IVec S1024 32 := fptosi 32 main_v15
  let main_v17 : FVec F S1024 .f32 := Host.floor main_v4
  fn_part1 (F := F) main_v9 main_v12 main_v14 main_v16 main_v17
-- ==== Kernel.lean ====
abbrev S1024x4 : Shape := ⟨2, ![1024, 4]⟩
abbrev S2x64x60x80 : Shape := ⟨4, ![2, 64, 60, 80]⟩
abbrev S2x3x3 : Shape := ⟨3, ![2, 3, 3]⟩
abbrev S2x1x480x640 : Shape := ⟨4, ![2, 1, 480, 640]⟩
abbrev S2x64x4800 : Shape := ⟨3, ![2, 64, 4800]⟩
abbrev S2x1x60x80 : Shape := ⟨4, ![2, 1, 60, 80]⟩
abbrev S2x60x80 : Shape := ⟨3, ![2, 60, 80]⟩
abbrev S2x4800 : Shape := ⟨2, ![2, 4800]⟩
abbrev S1024x1 : Shape := ⟨2, ![1024, 1]⟩
abbrev S1024 : Shape := ⟨1, ![1024]⟩
abbrev S_ : Shape := ⟨0, ![]⟩
abbrev S1x1024 : Shape := ⟨2, ![1, 1024]⟩
abbrev S4x1024 : Shape := ⟨2, ![4, 1024]⟩
abbrev S1024x64 : Shape := ⟨2, ![1024, 64]⟩
abbrev S2x8x128 : Shape := ⟨3, ![2, 8, 128]⟩
abbrev S1x1x1 : Shape := ⟨3, ![1, 1, 1]⟩
abbrev S512x4 : Shape := ⟨2, ![512, 4]⟩
abbrev S512x64 : Shape := ⟨2, ![512, 64]⟩
abbrev S1x8x128 : Shape := ⟨3, ![1, 8, 128]⟩
abbrev S9600x64 : Shape := ⟨2, ![9600, 64]⟩
abbrev S64x64 : Shape := ⟨2, ![64, 64]⟩
abbrev S1x64x4800 : Shape := ⟨3, ![1, 64, 4800]⟩
abbrev S64x4800 : Shape := ⟨2, ![64, 4800]⟩
abbrev S4800x64 : Shape := ⟨2, ![4800, 64]⟩
abbrev S8x64 : Shape := ⟨2, ![8, 64]⟩
abbrev S1x1 : Shape := ⟨2, ![1, 1]⟩
abbrev S64 : Shape := ⟨1, ![64]⟩
abbrev S1x64 : Shape := ⟨2, ![1, 64]⟩
abbrev S512x1 : Shape := ⟨2, ![512, 1]⟩
abbrev S512 : Shape := ⟨1, ![512]⟩
abbrev S1x4800 : Shape := ⟨2, ![1, 4800]⟩
abbrev S1x3x3 : Shape := ⟨3, ![1, 3, 3]⟩
abbrev S3x3 : Shape := ⟨2, ![3, 3]⟩
abbrev S4800 : Shape := ⟨1, ![4800]⟩
abbrev S4x4800 : Shape := ⟨2, ![4, 4800]⟩
abbrev S128x64 : Shape := ⟨2, ![128, 64]⟩
abbrev S128x4800 : Shape := ⟨2, ![128, 4800]⟩
abbrev S128x1 : Shape := ⟨2, ![128, 1]⟩
abbrev S128x4 : Shape := ⟨2, ![128, 4]⟩
abbrev S128 : Shape := ⟨1, ![128]⟩
abbrev S1x128x1 : Shape := ⟨3, ![1, 128, 1]⟩
abbrev S1 : Shape := ⟨1, ![1]⟩
abbrev S8x128 : Shape := ⟨2, ![8, 128]⟩

abbrev nBuf : Space → Nat
  | .hbm => 93
  | .vmem => 15
  | .smem => 1
  | _ => 0

abbrev bufTy : (tb : Table) → Fin (tcTables nBuf tb) → BufTy
  | .hbm, ⟨0, _⟩ => ⟨S1024x4, .f32⟩
  | .hbm, ⟨1, _⟩ => ⟨S2x64x60x80, .f32⟩
  | .hbm, ⟨2, _⟩ => ⟨S2x64x60x80, .f32⟩
  | .hbm, ⟨3, _⟩ => ⟨S2x3x3, .f32⟩
  | .hbm, ⟨4, _⟩ => ⟨S2x1x480x640, .f32⟩
  | .hbm, ⟨5, _⟩ => ⟨S2x64x4800, .f32⟩
  | .hbm, ⟨6, _⟩ => ⟨S2x64x4800, .f32⟩
  | .hbm, ⟨7, _⟩ => ⟨S2x1x60x80, .f32⟩
  | .hbm, ⟨8, _⟩ => ⟨S2x60x80, .f32⟩
  | .hbm, ⟨9, _⟩ => ⟨S2x4800, .f32⟩
  | .hbm, ⟨10, _⟩ => ⟨S1024x1, .f32⟩
  | .hbm, ⟨11, _⟩ => ⟨S1024, .f32⟩
  | .hbm, ⟨12, _⟩ => ⟨S1024, .i32⟩
  | .hbm, ⟨13, _⟩ => ⟨S1024x1, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024x1, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .i32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S_, .i32⟩
  | .hbm, ⟨76, _⟩ => ⟨S1024, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1x1024, .i32⟩
  | .hbm, ⟨81, _⟩ => ⟨S1x1024, .i32⟩
  | .hbm, ⟨82, _⟩ => ⟨S1x1024, .i32⟩
  | .hbm, ⟨83, _⟩ => ⟨S1x1024, .i32⟩
  | .hbm, ⟨84, _⟩ => ⟨S1024x64, .f32⟩
  | .hbm, ⟨85, _⟩ => ⟨S2x8x128, .f32⟩
  | .hbm, ⟨86, _⟩ => ⟨S1x1x1, .f32⟩
  | .hbm, ⟨87, _⟩ => ⟨S_, .f32⟩
  | .hbm, ⟨88, _⟩ => ⟨S1x1x1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .local _ .vmem, ⟨0, _⟩ => ⟨S512x4, .f32⟩
  | .local _ .vmem, ⟨1, _⟩ => ⟨S512x4, .f32⟩
  | .local _ .vmem, ⟨2, _⟩ => ⟨S2x64x4800, .f32⟩
  | .local _ .vmem, ⟨3, _⟩ => ⟨S2x64x4800, .f32⟩
  | .local _ .vmem, ⟨4, _⟩ => ⟨S2x4800, .f32⟩
  | .local _ .vmem, ⟨5, _⟩ => ⟨S2x3x3, .f32⟩
  | .local _ .vmem, ⟨6, _⟩ => ⟨S512x64, .f32⟩
  | .local _ .vmem, ⟨7, _⟩ => ⟨S512x64, .f32⟩
  | .local _ .vmem, ⟨8, _⟩ => ⟨S1x8x128, .f32⟩
  | .local _ .vmem, ⟨9, _⟩ => ⟨S1x8x128, .f32⟩
  | .local _ .vmem, ⟨10, _⟩ => ⟨S9600x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .smem, ⟨0, _⟩ => ⟨S4x1024, .i32⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_cst : Ref sig .tc := ⟨.hbm, 15, rfl⟩
abbrev main_call0_v10 : Ref sig .tc := ⟨.hbm, 16, rfl⟩
abbrev main_call0_v11 : Ref sig .tc := ⟨.hbm, 17, rfl⟩
abbrev main_call0_cst_0 : Ref sig .tc := ⟨.hbm, 18, rfl⟩
abbrev main_call0_cst_1 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst_2 : Ref sig .tc := ⟨.hbm, 28, rfl⟩
abbrev main_call0_v15 : Ref sig .tc := ⟨.hbm, 29, rfl⟩
abbrev main_call0_v16 : Ref sig .tc := ⟨.hbm, 30, rfl⟩
abbrev main_call0_cst_3 : Ref sig .tc := ⟨.hbm, 31, rfl⟩
abbrev main_call0_cst_4 : Ref sig .tc := ⟨.hbm, 32, rfl⟩
abbrev main_call0_call1_v0 : Ref sig .tc := ⟨.hbm, 33, rfl⟩
abbrev main_call0_call1_v1 : Ref sig .tc := ⟨.hbm, 34, rfl⟩
abbrev main_call0_call1_v2 : Ref sig .tc := ⟨.hbm, 35, rfl⟩
abbrev main_call0_call1_v3 : Ref sig .tc := ⟨.hbm, 36, rfl⟩
abbrev main_call0_call1_v4 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_cst_5 : Ref sig .tc := ⟨.hbm, 41, rfl⟩
abbrev main_call0_v20 : Ref sig .tc := ⟨.hbm, 42, rfl⟩
abbrev main_call0_v21 : Ref sig .tc := ⟨.hbm, 43, rfl⟩
abbrev main_call0_cst_6 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_cst_7 : Ref sig .tc := ⟨.hbm, 48, rfl⟩
abbrev main_call0_v25 : Ref sig .tc := ⟨.hbm, 49, rfl⟩
abbrev main_call0_v26 : Ref sig .tc := ⟨.hbm, 50, rfl⟩
abbrev main_call0_cst_8 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_c : Ref sig .tc := ⟨.hbm, 57, rfl⟩
abbrev main_call0_v32 : Ref sig .tc := ⟨.hbm, 58, rfl⟩
abbrev main_call0_v33 : Ref sig .tc := ⟨.hbm, 59, rfl⟩
abbrev main_call0_c_9 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_c_10 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_v41 : Ref sig .tc := ⟨.hbm, 69, rfl⟩
abbrev main_call0_c_11 : Ref sig .tc := ⟨.hbm, 70, rfl⟩
abbrev main_call0_v42 : Ref sig .tc := ⟨.hbm, 71, rfl⟩
abbrev main_call0_v43 : Ref sig .tc := ⟨.hbm, 72, rfl⟩
abbrev main_call0_v44 : Ref sig .tc := ⟨.hbm, 73, rfl⟩
abbrev main_call0_v45 : Ref sig .tc := ⟨.hbm, 74, rfl⟩
abbrev main_call0_c_12 : Ref sig .tc := ⟨.hbm, 75, rfl⟩
abbrev main_call0_v46 : Ref sig .tc := ⟨.hbm, 76, rfl⟩
abbrev main_call0_v47 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_v0_1 : Ref sig .tc := ⟨.hbm, 84, rfl⟩
abbrev main_call0_v55_1 : Ref sig .tc := ⟨.hbm, 85, rfl⟩
abbrev main_call0_v56 : Ref sig .tc := ⟨.hbm, 86, rfl⟩
abbrev main_call0_v57 : Ref sig .tc := ⟨.hbm, 87, rfl⟩
abbrev main_call0_v58 : Ref sig .tc := ⟨.hbm, 88, rfl⟩
abbrev main_call0_v59 : Ref sig .tc := ⟨.hbm, 89, rfl⟩
abbrev main_call0_v60 : Ref sig .tc := ⟨.hbm, 90, rfl⟩
abbrev main_call0_cst_13 : Ref sig .tc := ⟨.hbm, 91, rfl⟩
abbrev main_v0_0 : Ref sig .tc := ⟨.hbm, 92, rfl⟩
abbrev main_call0_v54 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_call0_v54.idx], fun | 0 => main_call0_v54.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32 : BitVec 32 := 64#32
  let v20 : BitVec 32 := Scalar.addi c0_i32 c64_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  v496
def k0_off1 (i : grid0.Coords) (k0_t1 : Fin k0_t1_loop.trips) : Fin 2 → Nat :=
  let c0_163 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v498 : BitVec 32 := Scalar.addi v18 v497
  let c0_i32_162 : BitVec 32 := 0#32
  let v499 : BitVec 32 := Scalar.addi v498 c0_i32_162
  let v500 : Index := Scalar.indexCast v499
  ![0, v500.toNat]
def k0_mult2 (v501 : BitVec 32) : BitVec 32 :=
  let c3_i32 : BitVec 32 := 3#32
  let v502 : BitVec 32 := Scalar.shrsi v501 c3_i32
  let c3_i32_164 : BitVec 32 := 3#32
  let v503 : BitVec 32 := Scalar.shli v502 c3_i32_164
  v503

def k0_off2 (v501 : BitVec 32) : Fin 2 → Nat :=
  let c3_i32 : BitVec 32 := 3#32
  let v502 : BitVec 32 := Scalar.shrsi v501 c3_i32
  let c3_i32_164 : BitVec 32 := 3#32
  let v503 : BitVec 32 := Scalar.shli v502 c3_i32_164
  let v504 : BitVec 32 := v503
  let v505 : Index := Scalar.indexCast v504
  let c0_165 : Index := 0#32
  ![v505.toNat, 0]

def k0_chk1 (v501 : BitVec 32) : Prop :=
  (8 ∣ (k0_mult2 v501).toNat) ∧
  (∀ a, (k0_off2 v501) a + S8x64.size a ≤ S9600x64.size a)
theorem k0_mult2_dvd : ∀ (v501 : BitVec 32) (k0_hw1 : k0_chk1 v501), 8 ∣ (k0_mult2 v501).toNat := fun v501 k0_hw1 => k0_hw1.1
theorem k0_off2_inb : ∀ (v501 : BitVec 32) (k0_hw1 : k0_chk1 v501), ∀ a, (k0_off2 v501) a + S8x64.size a ≤ S9600x64.size a := fun v501 k0_hw1 => k0_hw1.2

def k0_off3 (i : grid0.Coords) (k0_t1 : Fin k0_t1_loop.trips) : Fin 2 → Nat :=
  let c1_169 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v498 : BitVec 32 := Scalar.addi v18 v497
  let c0_i32_162 : BitVec 32 := 0#32
  let v499 : BitVec 32 := Scalar.addi v498 c0_i32_162
  let v516 : Index := Scalar.indexCast v499
  ![1, v516.toNat]
def k0_mult3 (v517 : BitVec 32) : BitVec 32 :=
  let c3_i32_170 : BitVec 32 := 3#32
  let v518 : BitVec 32 := Scalar.shrsi v517 c3_i32_170
  let c3_i32_171 : BitVec 32 := 3#32
  let v519 : BitVec 32 := Scalar.shli v518 c3_i32_171
  v519

def k0_off4 (v517 : BitVec 32) : Fin 2 → Nat :=
  let c3_i32_170 : BitVec 32 := 3#32
  let v518 : BitVec 32 := Scalar.shrsi v517 c3_i32_170
  let c3_i32_171 : BitVec 32 := 3#32
  let v519 : BitVec 32 := Scalar.shli v518 c3_i32_171
  let v520 : BitVec 32 := v519
  let v521 : Index := Scalar.indexCast v520
  let c0_172 : Index := 0#32
  ![v521.toNat, 0]

def k0_chk2 (v517 : BitVec 32) : Prop :=
  (8 ∣ (k0_mult3 v517).toNat) ∧
  (∀ a, (k0_off4 v517) a + S8x64.size a ≤ S9600x64.size a)
theorem k0_mult3_dvd : ∀ (v517 : BitVec 32) (k0_hw2 : k0_chk2 v517), 8 ∣ (k0_mult3 v517).toNat := fun v517 k0_hw2 => k0_hw2.1
theorem k0_off4_inb : ∀ (v517 : BitVec 32) (k0_hw2 : k0_chk2 v517), ∀ a, (k0_off4 v517) a + S8x64.size a ≤ S9600x64.size a := fun v517 k0_hw2 => k0_hw2.2

def k0_off5 (i : grid0.Coords) (k0_t1 : Fin k0_t1_loop.trips) : Fin 2 → Nat :=
  let c2_177 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v498 : BitVec 32 := Scalar.addi v18 v497
  let c0_i32_162 : BitVec 32 := 0#32
  let v499 : BitVec 32 := Scalar.addi v498 c0_i32_162
  let v532 : Index := Scalar.indexCast v499
  ![2, v532.toNat]
def k0_mult4 (v533 : BitVec 32) : BitVec 32 :=
  let c3_i32_178 : BitVec 32 := 3#32
  let v534 : BitVec 32 := Scalar.shrsi v533 c3_i32_178
  let c3_i32_179 : BitVec 32 := 3#32
  let v535 : BitVec 32 := Scalar.shli v534 c3_i32_179
  v535

def k0_off6 (v533 : BitVec 32) : Fin 2 → Nat :=
  let c3_i32_178 : BitVec 32 := 3#32
  let v534 : BitVec 32 := Scalar.shrsi v533 c3_i32_178
  let c3_i32_179 : BitVec 32 := 3#32
  let v535 : BitVec 32 := Scalar.shli v534 c3_i32_179
  let v536 : BitVec 32 := v535
  let v537 : Index := Scalar.indexCast v536
  let c0_180 : Index := 0#32
  ![v537.toNat, 0]

def k0_chk3 (v533 : BitVec 32) : Prop :=
  (8 ∣ (k0_mult4 v533).toNat) ∧
  (∀ a, (k0_off6 v533) a + S8x64.size a ≤ S9600x64.size a)
theorem k0_mult4_dvd : ∀ (v533 : BitVec 32) (k0_hw3 : k0_chk3 v533), 8 ∣ (k0_mult4 v533).toNat := fun v533 k0_hw3 => k0_hw3.1
theorem k0_off6_inb : ∀ (v533 : BitVec 32) (k0_hw3 : k0_chk3 v533), ∀ a, (k0_off6 v533) a + S8x64.size a ≤ S9600x64.size a := fun v533 k0_hw3 => k0_hw3.2

def k0_off7 (i : grid0.Coords) (k0_t1 : Fin k0_t1_loop.trips) : Fin 2 → Nat :=
  let c3_185 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v498 : BitVec 32 := Scalar.addi v18 v497
  let c0_i32_162 : BitVec 32 := 0#32
  let v499 : BitVec 32 := Scalar.addi v498 c0_i32_162
  let v548 : Index := Scalar.indexCast v499
  ![3, v548.toNat]
def k0_mult5 (v549 : BitVec 32) : BitVec 32 :=
  let c3_i32_186 : BitVec 32 := 3#32
  let v550 : BitVec 32 := Scalar.shrsi v549 c3_i32_186
  let c3_i32_187 : BitVec 32 := 3#32
  let v551 : BitVec 32 := Scalar.shli v550 c3_i32_187
  v551

def k0_off8 (v549 : BitVec 32) : Fin 2 → Nat :=
  let c3_i32_186 : BitVec 32 := 3#32
  let v550 : BitVec 32 := Scalar.shrsi v549 c3_i32_186
  let c3_i32_187 : BitVec 32 := 3#32
  let v551 : BitVec 32 := Scalar.shli v550 c3_i32_187
  let v552 : BitVec 32 := v551
  let v553 : Index := Scalar.indexCast v552
  let c0_188 : Index := 0#32
  ![v553.toNat, 0]

def k0_chk4 (v549 : BitVec 32) : Prop :=
  (8 ∣ (k0_mult5 v549).toNat) ∧
  (∀ a, (k0_off8 v549) a + S8x64.size a ≤ S9600x64.size a)
theorem k0_mult5_dvd : ∀ (v549 : BitVec 32) (k0_hw4 : k0_chk4 v549), 8 ∣ (k0_mult5 v549).toNat := fun v549 k0_hw4 => k0_hw4.1
theorem k0_off8_inb : ∀ (v549 : BitVec 32) (k0_hw4 : k0_chk4 v549), ∀ a, (k0_off8 v549) a + S8x64.size a ≤ S9600x64.size a := fun v549 k0_hw4 => k0_hw4.2

def k0_off9 (i : grid0.Coords) (k0_t1 : Fin k0_t1_loop.trips) : Fin 2 → Nat :=
  let c0_194 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v564 : BitVec 32 := Scalar.addi v18 v497
  let c1_i32_193 : BitVec 32 := 1#32
  let v565 : BitVec 32 := Scalar.addi v564 c1_i32_193
  let v566 : Index := Scalar.indexCast v565
  ![0, v566.toNat]
def k0_mult6 (v567 : BitVec 32) : BitVec 32 :=
  let c3_i32_195 : BitVec 32 := 3#32
  let v568 : BitVec 32 := Scalar.shrsi v567 c3_i32_195
  let c3_i32_196 : BitVec 32 := 3#32
  let v569 : BitVec 32 := Scalar.shli v568 c3_i32_196
  v569

def k0_off10 (v567 : BitVec 32) : Fin 2 → Nat :=
  let c3_i32_195 : BitVec 32 := 3#32
  let v568 : BitVec 32 := Scalar.shrsi v567 c3_i32_195
  let c3_i32_196 : BitVec 32 := 3#32
  let v569 : BitVec 32 := Scalar.shli v568 c3_i32_196
  let v570 : BitVec 32 := v569
  let v571 : Index := Scalar.indexCast v570
  let c0_197 : Index := 0#32
  ![v571.toNat, 0]

def k0_chk5 (v567 : BitVec 32) : Prop :=
  (8 ∣ (k0_mult6 v567).toNat) ∧
  (∀ a, (k0_off10 v567) a + S8x64.size a ≤ S9600x64.size a)
theorem k0_mult6_dvd : ∀ (v567 : BitVec 32) (k0_hw5 : k0_chk5 v567), 8 ∣ (k0_mult6 v567).toNat := fun v567 k0_hw5 => k0_hw5.1
theorem k0_off10_inb : ∀ (v567 : BitVec 32) (k0_hw5 : k0_chk5 v567), ∀ a, (k0_off10 v567) a + S8x64.size a ≤ S9600x64.size a := fun v567 k0_hw5 => k0_hw5.2

def k0_off11 (i : grid0.Coords) (k0_t1 : Fin k0_t1_loop.trips) : Fin 2 → Nat :=
  let c1_202 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v564 : BitVec 32 := Scalar.addi v18 v497
  let c1_i32_193 : BitVec 32 := 1#32
  let v565 : BitVec 32 := Scalar.addi v564 c1_i32_193
  let v582 : Index := Scalar.indexCast v565
  ![1, v582.toNat]
def k0_mult7 (v583 : BitVec 32) : BitVec 32 :=
  let c3_i32_203 : BitVec 32 := 3#32
  let v584 : BitVec 32 := Scalar.shrsi v583 c3_i32_203
  let c3_i32_204 : BitVec 32 := 3#32
  let v585 : BitVec 32 := Scalar.shli v584 c3_i32_204
  v585

def k0_off12 (v583 : BitVec 32) : Fin 2 → Nat :=
  let c3_i32_203 : BitVec 32 := 3#32
  let v584 : BitVec 32 := Scalar.shrsi v583 c3_i32_203
  let c3_i32_204 : BitVec 32 := 3#32
  let v585 : BitVec 32 := Scalar.shli v584 c3_i32_204
  let v586 : BitVec 32 := v585
  let v587 : Index := Scalar.indexCast v586
  let c0_205 : Index := 0#32
  ![v587.toNat, 0]

def k0_chk6 (v583 : BitVec 32) : Prop :=
  (8 ∣ (k0_mult7 v583).toNat) ∧
  (∀ a, (k0_off12 v583) a + S8x64.size a ≤ S9600x64.size a)
theorem k0_mult7_dvd : ∀ (v583 : BitVec 32) (k0_hw6 : k0_chk6 v583), 8 ∣ (k0_mult7 v583).toNat := fun v583 k0_hw6 => k0_hw6.1
theorem k0_off12_inb : ∀ (v583 : BitVec 32) (k0_hw6 : k0_chk6 v583), ∀ a, (k0_off12 v583) a + S8x64.size a ≤ S9600x64.size a := fun v583 k0_hw6 => k0_hw6.2

def k0_off13 (i : grid0.Coords) (k0_t1 : Fin k0_t1_loop.trips) : Fin 2 → Nat :=
  let c2_210 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v564 : BitVec 32 := Scalar.addi v18 v497
  let c1_i32_193 : BitVec 32 := 1#32
  let v565 : BitVec 32 := Scalar.addi v564 c1_i32_193
  let v598 : Index := Scalar.indexCast v565
  ![2, v598.toNat]
def k0_mult8 (v599 : BitVec 32) : BitVec 32 :=
  let c3_i32_211 : BitVec 32 := 3#32
  let v600 : BitVec 32 := Scalar.shrsi v599 c3_i32_211
  let c3_i32_212 : BitVec 32 := 3#32
  let v601 : BitVec 32 := Scalar.shli v600 c3_i32_212
  v601

def k0_off14 (v599 : BitVec 32) : Fin 2 → Nat :=
  let c3_i32_211 : BitVec 32 := 3#32
  let v600 : BitVec 32 := Scalar.shrsi v599 c3_i32_211
  let c3_i32_212 : BitVec 32 := 3#32
  let v601 : BitVec 32 := Scalar.shli v600 c3_i32_212
  let v602 : BitVec 32 := v601
  let v603 : Index := Scalar.indexCast v602
  let c0_213 : Index := 0#32
  ![v603.toNat, 0]

def k0_chk7 (v599 : BitVec 32) : Prop :=
  (8 ∣ (k0_mult8 v599).toNat) ∧
  (∀ a, (k0_off14 v599) a + S8x64.size a ≤ S9600x64.size a)
theorem k0_mult8_dvd : ∀ (v599 : BitVec 32) (k0_hw7 : k0_chk7 v599), 8 ∣ (k0_mult8 v599).toNat := fun v599 k0_hw7 => k0_hw7.1
theorem k0_off14_inb : ∀ (v599 : BitVec 32) (k0_hw7 : k0_chk7 v599), ∀ a, (k0_off14 v599) a + S8x64.size a ≤ S9600x64.size a := fun v599 k0_hw7 => k0_hw7.2

def k0_off15 (i : grid0.Coords) (k0_t1 : Fin k0_t1_loop.trips) : Fin 2 → Nat :=
  let c3_218 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v564 : BitVec 32 := Scalar.addi v18 v497
  let c1_i32_193 : BitVec 32 := 1#32
  let v565 : BitVec 32 := Scalar.addi v564 c1_i32_193
  let v614 : Index := Scalar.indexCast v565
  ![3, v614.toNat]
def k0_mult9 (v615 : BitVec 32) : BitVec 32 :=
  let c3_i32_219 : BitVec 32 := 3#32
  let v616 : BitVec 32 := Scalar.shrsi v615 c3_i32_219
  let c3_i32_220 : BitVec 32 := 3#32
  let v617 : BitVec 32 := Scalar.shli v616 c3_i32_220
  v617

def k0_off16 (v615 : BitVec 32) : Fin 2 → Nat :=
  let c3_i32_219 : BitVec 32 := 3#32
  let v616 : BitVec 32 := Scalar.shrsi v615 c3_i32_219
  let c3_i32_220 : BitVec 32 := 3#32
  let v617 : BitVec 32 := Scalar.shli v616 c3_i32_220
  let v618 : BitVec 32 := v617
  let v619 : Index := Scalar.indexCast v618
  let c0_221 : Index := 0#32
  ![v619.toNat, 0]

def k0_chk8 (v615 : BitVec 32) : Prop :=
  (8 ∣ (k0_mult9 v615).toNat) ∧
  (∀ a, (k0_off16 v615) a + S8x64.size a ≤ S9600x64.size a)
theorem k0_mult9_dvd : ∀ (v615 : BitVec 32) (k0_hw8 : k0_chk8 v615), 8 ∣ (k0_mult9 v615).toNat := fun v615 k0_hw8 => k0_hw8.1
theorem k0_off16_inb : ∀ (v615 : BitVec 32) (k0_hw8 : k0_chk8 v615), ∀ a, (k0_off16 v615) a + S8x64.size a ≤ S9600x64.size a := fun v615 k0_hw8 => k0_hw8.2

def k0_off17 (i : grid0.Coords) (k0_t1 : Fin k0_t1_loop.trips) : Fin 2 → Nat :=
  let c0_227 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v630 : BitVec 32 := Scalar.addi v18 v497
  let c2_i32_226 : BitVec 32 := 2#32
  let v631 : BitVec 32 := Scalar.addi v630 c2_i32_226
  let v632 : Index := Scalar.indexCast v631
  ![0, v632.toNat]
def k0_mult10 (v633 : BitVec 32) : BitVec 32 :=
  let c3_i32_228 : BitVec 32 := 3#32
  let v634 : BitVec 32 := Scalar.shrsi v633 c3_i32_228
  let c3_i32_229 : BitVec 32 := 3#32
  let v635 : BitVec 32 := Scalar.shli v634 c3_i32_229
  v635

def k0_off18 (v633 : BitVec 32) : Fin 2 → Nat :=
  let c3_i32_228 : BitVec 32 := 3#32
  let v634 : BitVec 32 := Scalar.shrsi v633 c3_i32_228
  let c3_i32_229 : BitVec 32 := 3#32
  let v635 : BitVec 32 := Scalar.shli v634 c3_i32_229
  let v636 : BitVec 32 := v635
  let v637 : Index := Scalar.indexCast v636
  let c0_230 : Index := 0#32
  ![v637.toNat, 0]

def k0_chk9 (v633 : BitVec 32) : Prop :=
  (8 ∣ (k0_mult10 v633).toNat) ∧
  (∀ a, (k0_off18 v633) a + S8x64.size a ≤ S9600x64.size a)
theorem k0_mult10_dvd : ∀ (v633 : BitVec 32) (k0_hw9 : k0_chk9 v633), 8 ∣ (k0_mult10 v633).toNat := fun v633 k0_hw9 => k0_hw9.1
theorem k0_off18_inb : ∀ (v633 : BitVec 32) (k0_hw9 : k0_chk9 v633), ∀ a, (k0_off18 v633) a + S8x64.size a ≤ S9600x64.size a := fun v633 k0_hw9 => k0_hw9.2

def k0_off19 (i : grid0.Coords) (k0_t1 : Fin k0_t1_loop.trips) : Fin 2 → Nat :=
  let c1_235 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v630 : BitVec 32 := Scalar.addi v18 v497
  let c2_i32_226 : BitVec 32 := 2#32
  let v631 : BitVec 32 := Scalar.addi v630 c2_i32_226
  let v648 : Index := Scalar.indexCast v631
  ![1, v648.toNat]
def k0_mult11 (v649 : BitVec 32) : BitVec 32 :=
  let c3_i32_236 : BitVec 32 := 3#32
  let v650 : BitVec 32 := Scalar.shrsi v649 c3_i32_236
  let c3_i32_237 : BitVec 32 := 3#32
  let v651 : BitVec 32 := Scalar.shli v650 c3_i32_237
  v651

def k0_off20 (v649 : BitVec 32) : Fin 2 → Nat :=
  let c3_i32_236 : BitVec 32 := 3#32
  let v650 : BitVec 32 := Scalar.shrsi v649 c3_i32_236
  let c3_i32_237 : BitVec 32 := 3#32
  let v651 : BitVec 32 := Scalar.shli v650 c3_i32_237
  let v652 : BitVec 32 := v651
  let v653 : Index := Scalar.indexCast v652
  let c0_238 : Index := 0#32
  ![v653.toNat, 0]

def k0_chk10 (v649 : BitVec 32) : Prop :=
  (8 ∣ (k0_mult11 v649).toNat) ∧
  (∀ a, (k0_off20 v649) a + S8x64.size a ≤ S9600x64.size a)
theorem k0_mult11_dvd : ∀ (v649 : BitVec 32) (k0_hw10 : k0_chk10 v649), 8 ∣ (k0_mult11 v649).toNat := fun v649 k0_hw10 => k0_hw10.1
theorem k0_off20_inb : ∀ (v649 : BitVec 32) (k0_hw10 : k0_chk10 v649), ∀ a, (k0_off20 v649) a + S8x64.size a ≤ S9600x64.size a := fun v649 k0_hw10 => k0_hw10.2

def k0_off21 (i : grid0.Coords) (k0_t1 : Fin k0_t1_loop.trips) : Fin 2 → Nat :=
  let c2_243 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v630 : BitVec 32 := Scalar.addi v18 v497
  let c2_i32_226 : BitVec 32 := 2#32
  let v631 : BitVec 32 := Scalar.addi v630 c2_i32_226
  let v664 : Index := Scalar.indexCast v631
  ![2, v664.toNat]
def k0_mult12 (v665 : BitVec 32) : BitVec 32 :=
  let c3_i32_244 : BitVec 32 := 3#32
  let v666 : BitVec 32 := Scalar.shrsi v665 c3_i32_244
  let c3_i32_245 : BitVec 32 := 3#32
  let v667 : BitVec 32 := Scalar.shli v666 c3_i32_245
  v667

def k0_off22 (v665 : BitVec 32) : Fin 2 → Nat :=
  let c3_i32_244 : BitVec 32 := 3#32
  let v666 : BitVec 32 := Scalar.shrsi v665 c3_i32_244
  let c3_i32_245 : BitVec 32 := 3#32
  let v667 : BitVec 32 := Scalar.shli v666 c3_i32_245
  let v668 : BitVec 32 := v667
  let v669 : Index := Scalar.indexCast v668
  let c0_246 : Index := 0#32
  ![v669.toNat, 0]

def k0_chk11 (v665 : BitVec 32) : Prop :=
  (8 ∣ (k0_mult12 v665).toNat) ∧
  (∀ a, (k0_off22 v665) a + S8x64.size a ≤ S9600x64.size a)
theorem k0_mult12_dvd : ∀ (v665 : BitVec 32) (k0_hw11 : k0_chk11 v665), 8 ∣ (k0_mult12 v665).toNat := fun v665 k0_hw11 => k0_hw11.1
theorem k0_off22_inb : ∀ (v665 : BitVec 32) (k0_hw11 : k0_chk11 v665), ∀ a, (k0_off22 v665) a + S8x64.size a ≤ S9600x64.size a := fun v665 k0_hw11 => k0_hw11.2

def k0_off23 (i : grid0.Coords) (k0_t1 : Fin k0_t1_loop.trips) : Fin 2 → Nat :=
  let c3_251 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v630 : BitVec 32 := Scalar.addi v18 v497
  let c2_i32_226 : BitVec 32 := 2#32
  let v631 : BitVec 32 := Scalar.addi v630 c2_i32_226
  let v680 : Index := Scalar.indexCast v631
  ![3, v680.toNat]
def k0_mult13 (v681 : BitVec 32) : BitVec 32 :=
  let c3_i32_252 : BitVec 32 := 3#32
  let v682 : BitVec 32 := Scalar.shrsi v681 c3_i32_252
  let c3_i32_253 : BitVec 32 := 3#32
  let v683 : BitVec 32 := Scalar.shli v682 c3_i32_253
  v683

def k0_off24 (v681 : BitVec 32) : Fin 2 → Nat :=
  let c3_i32_252 : BitVec 32 := 3#32
  let v682 : BitVec 32 := Scalar.shrsi v681 c3_i32_252
  let c3_i32_253 : BitVec 32 := 3#32
  let v683 : BitVec 32 := Scalar.shli v682 c3_i32_253
  let v684 : BitVec 32 := v683
  let v685 : Index := Scalar.indexCast v684
  let c0_254 : Index := 0#32
  ![v685.toNat, 0]

def k0_chk12 (v681 : BitVec 32) : Prop :=
  (8 ∣ (k0_mult13 v681).toNat) ∧
  (∀ a, (k0_off24 v681) a + S8x64.size a ≤ S9600x64.size a)
theorem k0_mult13_dvd : ∀ (v681 : BitVec 32) (k0_hw12 : k0_chk12 v681), 8 ∣ (k0_mult13 v681).toNat := fun v681 k0_hw12 => k0_hw12.1
theorem k0_off24_inb : ∀ (v681 : BitVec 32) (k0_hw12 : k0_chk12 v681), ∀ a, (k0_off24 v681) a + S8x64.size a ≤ S9600x64.size a := fun v681 k0_hw12 => k0_hw12.2

def k0_off25 (i : grid0.Coords) (k0_t1 : Fin k0_t1_loop.trips) : Fin 2 → Nat :=
  let c0_260 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v696 : BitVec 32 := Scalar.addi v18 v497
  let c3_i32_259 : BitVec 32 := 3#32
  let v697 : BitVec 32 := Scalar.addi v696 c3_i32_259
  let v698 : Index := Scalar.indexCast v697
  ![0, v698.toNat]
def k0_mult14 (v699 : BitVec 32) : BitVec 32 :=
  let c3_i32_261 : BitVec 32 := 3#32
  let v700 : BitVec 32 := Scalar.shrsi v699 c3_i32_261
  let c3_i32_262 : BitVec 32 := 3#32
  let v701 : BitVec 32 := Scalar.shli v700 c3_i32_262
  v701

def k0_off26 (v699 : BitVec 32) : Fin 2 → Nat :=
  let c3_i32_261 : BitVec 32 := 3#32
  let v700 : BitVec 32 := Scalar.shrsi v699 c3_i32_261
  let c3_i32_262 : BitVec 32 := 3#32
  let v701 : BitVec 32 := Scalar.shli v700 c3_i32_262
  let v702 : BitVec 32 := v701
  let v703 : Index := Scalar.indexCast v702
  let c0_263 : Index := 0#32
  ![v703.toNat, 0]

def k0_chk13 (v699 : BitVec 32) : Prop :=
  (8 ∣ (k0_mult14 v699).toNat) ∧
  (∀ a, (k0_off26 v699) a + S8x64.size a ≤ S9600x64.size a)
theorem k0_mult14_dvd : ∀ (v699 : BitVec 32) (k0_hw13 : k0_chk13 v699), 8 ∣ (k0_mult14 v699).toNat := fun v699 k0_hw13 => k0_hw13.1
theorem k0_off26_inb : ∀ (v699 : BitVec 32) (k0_hw13 : k0_chk13 v699), ∀ a, (k0_off26 v699) a + S8x64.size a ≤ S9600x64.size a := fun v699 k0_hw13 => k0_hw13.2

def k0_off27 (i : grid0.Coords) (k0_t1 : Fin k0_t1_loop.trips) : Fin 2 → Nat :=
  let c1_268 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v696 : BitVec 32 := Scalar.addi v18 v497
  let c3_i32_259 : BitVec 32 := 3#32
  let v697 : BitVec 32 := Scalar.addi v696 c3_i32_259
  let v714 : Index := Scalar.indexCast v697
  ![1, v714.toNat]
def k0_mult15 (v715 : BitVec 32) : BitVec 32 :=
  let c3_i32_269 : BitVec 32 := 3#32
  let v716 : BitVec 32 := Scalar.shrsi v715 c3_i32_269
  let c3_i32_270 : BitVec 32 := 3#32
  let v717 : BitVec 32 := Scalar.shli v716 c3_i32_270
  v717

def k0_off28 (v715 : BitVec 32) : Fin 2 → Nat :=
  let c3_i32_269 : BitVec 32 := 3#32
  let v716 : BitVec 32 := Scalar.shrsi v715 c3_i32_269
  let c3_i32_270 : BitVec 32 := 3#32
  let v717 : BitVec 32 := Scalar.shli v716 c3_i32_270
  let v718 : BitVec 32 := v717
  let v719 : Index := Scalar.indexCast v718
  let c0_271 : Index := 0#32
  ![v719.toNat, 0]

def k0_chk14 (v715 : BitVec 32) : Prop :=
  (8 ∣ (k0_mult15 v715).toNat) ∧
  (∀ a, (k0_off28 v715) a + S8x64.size a ≤ S9600x64.size a)
theorem k0_mult15_dvd : ∀ (v715 : BitVec 32) (k0_hw14 : k0_chk14 v715), 8 ∣ (k0_mult15 v715).toNat := fun v715 k0_hw14 => k0_hw14.1
theorem k0_off28_inb : ∀ (v715 : BitVec 32) (k0_hw14 : k0_chk14 v715), ∀ a, (k0_off28 v715) a + S8x64.size a ≤ S9600x64.size a := fun v715 k0_hw14 => k0_hw14.2

def k0_off29 (i : grid0.Coords) (k0_t1 : Fin k0_t1_loop.trips) : Fin 2 → Nat :=
  let c2_276 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v696 : BitVec 32 := Scalar.addi v18 v497
  let c3_i32_259 : BitVec 32 := 3#32
  let v697 : BitVec 32 := Scalar.addi v696 c3_i32_259
  let v730 : Index := Scalar.indexCast v697
  ![2, v730.toNat]
def k0_mult16 (v731 : BitVec 32) : BitVec 32 :=
  let c3_i32_277 : BitVec 32 := 3#32
  let v732 : BitVec 32 := Scalar.shrsi v731 c3_i32_277
  let c3_i32_278 : BitVec 32 := 3#32
  let v733 : BitVec 32 := Scalar.shli v732 c3_i32_278
  v733

def k0_off30 (v731 : BitVec 32) : Fin 2 → Nat :=
  let c3_i32_277 : BitVec 32 := 3#32
  let v732 : BitVec 32 := Scalar.shrsi v731 c3_i32_277
  let c3_i32_278 : BitVec 32 := 3#32
  let v733 : BitVec 32 := Scalar.shli v732 c3_i32_278
  let v734 : BitVec 32 := v733
  let v735 : Index := Scalar.indexCast v734
  let c0_279 : Index := 0#32
  ![v735.toNat, 0]

def k0_chk15 (v731 : BitVec 32) : Prop :=
  (8 ∣ (k0_mult16 v731).toNat) ∧
  (∀ a, (k0_off30 v731) a + S8x64.size a ≤ S9600x64.size a)
theorem k0_mult16_dvd : ∀ (v731 : BitVec 32) (k0_hw15 : k0_chk15 v731), 8 ∣ (k0_mult16 v731).toNat := fun v731 k0_hw15 => k0_hw15.1
theorem k0_off30_inb : ∀ (v731 : BitVec 32) (k0_hw15 : k0_chk15 v731), ∀ a, (k0_off30 v731) a + S8x64.size a ≤ S9600x64.size a := fun v731 k0_hw15 => k0_hw15.2

def k0_off31 (i : grid0.Coords) (k0_t1 : Fin k0_t1_loop.trips) : Fin 2 → Nat :=
  let c3_284 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v696 : BitVec 32 := Scalar.addi v18 v497
  let c3_i32_259 : BitVec 32 := 3#32
  let v697 : BitVec 32 := Scalar.addi v696 c3_i32_259
  let v746 : Index := Scalar.indexCast v697
  ![3, v746.toNat]
def k0_mult17 (v747 : BitVec 32) : BitVec 32 :=
  let c3_i32_285 : BitVec 32 := 3#32
  let v748 : BitVec 32 := Scalar.shrsi v747 c3_i32_285
  let c3_i32_286 : BitVec 32 := 3#32
  let v749 : BitVec 32 := Scalar.shli v748 c3_i32_286
  v749

def k0_off32 (v747 : BitVec 32) : Fin 2 → Nat :=
  let c3_i32_285 : BitVec 32 := 3#32
  let v748 : BitVec 32 := Scalar.shrsi v747 c3_i32_285
  let c3_i32_286 : BitVec 32 := 3#32
  let v749 : BitVec 32 := Scalar.shli v748 c3_i32_286
  let v750 : BitVec 32 := v749
  let v751 : Index := Scalar.indexCast v750
  let c0_287 : Index := 0#32
  ![v751.toNat, 0]

def k0_chk16 (v747 : BitVec 32) : Prop :=
  (8 ∣ (k0_mult17 v747).toNat) ∧
  (∀ a, (k0_off32 v747) a + S8x64.size a ≤ S9600x64.size a)
theorem k0_mult17_dvd : ∀ (v747 : BitVec 32) (k0_hw16 : k0_chk16 v747), 8 ∣ (k0_mult17 v747).toNat := fun v747 k0_hw16 => k0_hw16.1
theorem k0_off32_inb : ∀ (v747 : BitVec 32) (k0_hw16 : k0_chk16 v747), ∀ a, (k0_off32 v747) a + S8x64.size a ≤ S9600x64.size a := fun v747 k0_hw16 => k0_hw16.2

def k0_off33 (i : grid0.Coords) (k0_t1 : Fin k0_t1_loop.trips) : Fin 2 → Nat :=
  let c0_292 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v762 : BitVec 32 := Scalar.addi v18 v497
  let c4_i32 : BitVec 32 := 4#32
  let v763 : BitVec 32 := Scalar.addi v762 c4_i32
  let v764 : Index := Scalar.indexCast v763
  ![0, v764.toNat]
def k0_mult18 (v765 : BitVec 32) : BitVec 32 :=
  let c3_i32_293 : BitVec 32 := 3#32
  let v766 : BitVec 32 := Scalar.shrsi v765 c3_i32_293
  let c3_i32_294 : BitVec 32 := 3#32
  let v767 : BitVec 32 := Scalar.shli v766 c3_i32_294
  v767

def k0_off34 (v765 : BitVec 32) : Fin 2 → Nat :=
  let c3_i32_293 : BitVec 32 := 3#32
  let v766 : BitVec 32 := Scalar.shrsi v765 c3_i32_293
  let c3_i32_294 : BitVec 32 := 3#32
  let v767 : BitVec 32 := Scalar.shli v766 c3_i32_294
  let v768 : BitVec 32 := v767
  let v769 : Index := Scalar.indexCast v768
  let c0_295 : Index := 0#32
  ![v769.toNat, 0]

def k0_chk17 (v765 : BitVec 32) : Prop :=
  (8 ∣ (k0_mult18 v765).toNat) ∧
  (∀ a, (k0_off34 v765) a + S8x64.size a ≤ S9600x64.size a)
theorem k0_mult18_dvd : ∀ (v765 : BitVec 32) (k0_hw17 : k0_chk17 v765), 8 ∣ (k0_mult18 v765).toNat := fun v765 k0_hw17 => k0_hw17.1
theorem k0_off34_inb : ∀ (v765 : BitVec 32) (k0_hw17 : k0_chk17 v765), ∀ a, (k0_off34 v765) a + S8x64.size a ≤ S9600x64.size a := fun v765 k0_hw17 => k0_hw17.2

def k0_off35 (i : grid0.Coords) (k0_t1 : Fin k0_t1_loop.trips) : Fin 2 → Nat :=
  let c1_300 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v762 : BitVec 32 := Scalar.addi v18 v497
  let c4_i32 : BitVec 32 := 4#32
  let v763 : BitVec 32 := Scalar.addi v762 c4_i32
  let v780 : Index := Scalar.indexCast v763
  ![1, v780.toNat]
def k0_mult19 (v781 : BitVec 32) : BitVec 32 :=
  let c3_i32_301 : BitVec 32 := 3#32
  let v782 : BitVec 32 := Scalar.shrsi v781 c3_i32_301
  let c3_i32_302 : BitVec 32 := 3#32
  let v783 : BitVec 32 := Scalar.shli v782 c3_i32_302
  v783

def k0_off36 (v781 : BitVec 32) : Fin 2 → Nat :=
  let c3_i32_301 : BitVec 32 := 3#32
  let v782 : BitVec 32 := Scalar.shrsi v781 c3_i32_301
  let c3_i32_302 : BitVec 32 := 3#32
  let v783 : BitVec 32 := Scalar.shli v782 c3_i32_302
  let v784 : BitVec 32 := v783
  let v785 : Index := Scalar.indexCast v784
  let c0_303 : Index := 0#32
  ![v785.toNat, 0]

def k0_chk18 (v781 : BitVec 32) : Prop :=
  (8 ∣ (k0_mult19 v781).toNat) ∧
  (∀ a, (k0_off36 v781) a + S8x64.size a ≤ S9600x64.size a)
theorem k0_mult19_dvd : ∀ (v781 : BitVec 32) (k0_hw18 : k0_chk18 v781), 8 ∣ (k0_mult19 v781).toNat := fun v781 k0_hw18 => k0_hw18.1
theorem k0_off36_inb : ∀ (v781 : BitVec 32) (k0_hw18 : k0_chk18 v781), ∀ a, (k0_off36 v781) a + S8x64.size a ≤ S9600x64.size a := fun v781 k0_hw18 => k0_hw18.2

def k0_off37 (i : grid0.Coords) (k0_t1 : Fin k0_t1_loop.trips) : Fin 2 → Nat :=
  let c2_308 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v762 : BitVec 32 := Scalar.addi v18 v497
  let c4_i32 : BitVec 32 := 4#32
  let v763 : BitVec 32 := Scalar.addi v762 c4_i32
  let v796 : Index := Scalar.indexCast v763
  ![2, v796.toNat]
def k0_mult20 (v797 : BitVec 32) : BitVec 32 :=
  let c3_i32_309 : BitVec 32 := 3#32
  let v798 : BitVec 32 := Scalar.shrsi v797 c3_i32_309
  let c3_i32_310 : BitVec 32 := 3#32
  let v799 : BitVec 32 := Scalar.shli v798 c3_i32_310
  v799

def k0_off38 (v797 : BitVec 32) : Fin 2 → Nat :=
  let c3_i32_309 : BitVec 32 := 3#32
  let v798 : BitVec 32 := Scalar.shrsi v797 c3_i32_309
  let c3_i32_310 : BitVec 32 := 3#32
  let v799 : BitVec 32 := Scalar.shli v798 c3_i32_310
  let v800 : BitVec 32 := v799
  let v801 : Index := Scalar.indexCast v800
  let c0_311 : Index := 0#32
  ![v801.toNat, 0]

def k0_chk19 (v797 : BitVec 32) : Prop :=
  (8 ∣ (k0_mult20 v797).toNat) ∧
  (∀ a, (k0_off38 v797) a + S8x64.size a ≤ S9600x64.size a)
theorem k0_mult20_dvd : ∀ (v797 : BitVec 32) (k0_hw19 : k0_chk19 v797), 8 ∣ (k0_mult20 v797).toNat := fun v797 k0_hw19 => k0_hw19.1
theorem k0_off38_inb : ∀ (v797 : BitVec 32) (k0_hw19 : k0_chk19 v797), ∀ a, (k0_off38 v797) a + S8x64.size a ≤ S9600x64.size a := fun v797 k0_hw19 => k0_hw19.2

def k0_off39 (i : grid0.Coords) (k0_t1 : Fin k0_t1_loop.trips) : Fin 2 → Nat :=
  let c3_316 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v762 : BitVec 32 := Scalar.addi v18 v497
  let c4_i32 : BitVec 32 := 4#32
  let v763 : BitVec 32 := Scalar.addi v762 c4_i32
  let v812 : Index := Scalar.indexCast v763
  ![3, v812.toNat]
def k0_mult21 (v813 : BitVec 32) : BitVec 32 :=
  let c3_i32_317 : BitVec 32 := 3#32
  let v814 : BitVec 32 := Scalar.shrsi v813 c3_i32_317
  let c3_i32_318 : BitVec 32 := 3#32
  let v815 : BitVec 32 := Scalar.shli v814 c3_i32_318
  v815

def k0_off40 (v813 : BitVec 32) : Fin 2 → Nat :=
  let c3_i32_317 : BitVec 32 := 3#32
  let v814 : BitVec 32 := Scalar.shrsi v813 c3_i32_317
  let c3_i32_318 : BitVec 32 := 3#32
  let v815 : BitVec 32 := Scalar.shli v814 c3_i32_318
  let v816 : BitVec 32 := v815
  let v817 : Index := Scalar.indexCast v816
  let c0_319 : Index := 0#32
  ![v817.toNat, 0]

def k0_chk20 (v813 : BitVec 32) : Prop :=
  (8 ∣ (k0_mult21 v813).toNat) ∧
  (∀ a, (k0_off40 v813) a + S8x64.size a ≤ S9600x64.size a)
theorem k0_mult21_dvd : ∀ (v813 : BitVec 32) (k0_hw20 : k0_chk20 v813), 8 ∣ (k0_mult21 v813).toNat := fun v813 k0_hw20 => k0_hw20.1
theorem k0_off40_inb : ∀ (v813 : BitVec 32) (k0_hw20 : k0_chk20 v813), ∀ a, (k0_off40 v813) a + S8x64.size a ≤ S9600x64.size a := fun v813 k0_hw20 => k0_hw20.2

def k0_off41 (i : grid0.Coords) (k0_t1 : Fin k0_t1_loop.trips) : Fin 2 → Nat :=
  let c0_324 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v828 : BitVec 32 := Scalar.addi v18 v497
  let c5_i32 : BitVec 32 := 5#32
  let v829 : BitVec 32 := Scalar.addi v828 c5_i32
  let v830 : Index := Scalar.indexCast v829
  ![0, v830.toNat]
def k0_mult22 (v831 : BitVec 32) : BitVec 32 :=
  let c3_i32_325 : BitVec 32 := 3#32
  let v832 : BitVec 32 := Scalar.shrsi v831 c3_i32_325
  let c3_i32_326 : BitVec 32 := 3#32
  let v833 : BitVec 32 := Scalar.shli v832 c3_i32_326
  v833

def k0_off42 (v831 : BitVec 32) : Fin 2 → Nat :=
  let c3_i32_325 : BitVec 32 := 3#32
  let v832 : BitVec 32 := Scalar.shrsi v831 c3_i32_325
  let c3_i32_326 : BitVec 32 := 3#32
  let v833 : BitVec 32 := Scalar.shli v832 c3_i32_326
  let v834 : BitVec 32 := v833
  let v835 : Index := Scalar.indexCast v834
  let c0_327 : Index := 0#32
  ![v835.toNat, 0]

def k0_chk21 (v831 : BitVec 32) : Prop :=
  (8 ∣ (k0_mult22 v831).toNat) ∧
  (∀ a, (k0_off42 v831) a + S8x64.size a ≤ S9600x64.size a)
theorem k0_mult22_dvd : ∀ (v831 : BitVec 32) (k0_hw21 : k0_chk21 v831), 8 ∣ (k0_mult22 v831).toNat := fun v831 k0_hw21 => k0_hw21.1
theorem k0_off42_inb : ∀ (v831 : BitVec 32) (k0_hw21 : k0_chk21 v831), ∀ a, (k0_off42 v831) a + S8x64.size a ≤ S9600x64.size a := fun v831 k0_hw21 => k0_hw21.2

def k0_off43 (i : grid0.Coords) (k0_t1 : Fin k0_t1_loop.trips) : Fin 2 → Nat :=
  let c1_332 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v828 : BitVec 32 := Scalar.addi v18 v497
  let c5_i32 : BitVec 32 := 5#32
  let v829 : BitVec 32 := Scalar.addi v828 c5_i32
  let v846 : Index := Scalar.indexCast v829
  ![1, v846.toNat]
def k0_mult23 (v847 : BitVec 32) : BitVec 32 :=
  let c3_i32_333 : BitVec 32 := 3#32
  let v848 : BitVec 32 := Scalar.shrsi v847 c3_i32_333
  let c3_i32_334 : BitVec 32 := 3#32
  let v849 : BitVec 32 := Scalar.shli v848 c3_i32_334
  v849

def k0_off44 (v847 : BitVec 32) : Fin 2 → Nat :=
  let c3_i32_333 : BitVec 32 := 3#32
  let v848 : BitVec 32 := Scalar.shrsi v847 c3_i32_333
  let c3_i32_334 : BitVec 32 := 3#32
  let v849 : BitVec 32 := Scalar.shli v848 c3_i32_334
  let v850 : BitVec 32 := v849
  let v851 : Index := Scalar.indexCast v850
  let c0_335 : Index := 0#32
  ![v851.toNat, 0]

def k0_chk22 (v847 : BitVec 32) : Prop :=
  (8 ∣ (k0_mult23 v847).toNat) ∧
  (∀ a, (k0_off44 v847) a + S8x64.size a ≤ S9600x64.size a)
theorem k0_mult23_dvd : ∀ (v847 : BitVec 32) (k0_hw22 : k0_chk22 v847), 8 ∣ (k0_mult23 v847).toNat := fun v847 k0_hw22 => k0_hw22.1
theorem k0_off44_inb : ∀ (v847 : BitVec 32) (k0_hw22 : k0_chk22 v847), ∀ a, (k0_off44 v847) a + S8x64.size a ≤ S9600x64.size a := fun v847 k0_hw22 => k0_hw22.2

def k0_off45 (i : grid0.Coords) (k0_t1 : Fin k0_t1_loop.trips) : Fin 2 → Nat :=
  let c2_340 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v828 : BitVec 32 := Scalar.addi v18 v497
  let c5_i32 : BitVec 32 := 5#32
  let v829 : BitVec 32 := Scalar.addi v828 c5_i32
  let v862 : Index := Scalar.indexCast v829
  ![2, v862.toNat]
def k0_mult24 (v863 : BitVec 32) : BitVec 32 :=
  let c3_i32_341 : BitVec 32 := 3#32
  let v864 : BitVec 32 := Scalar.shrsi v863 c3_i32_341
  let c3_i32_342 : BitVec 32 := 3#32
  let v865 : BitVec 32 := Scalar.shli v864 c3_i32_342
  v865

def k0_off46 (v863 : BitVec 32) : Fin 2 → Nat :=
  let c3_i32_341 : BitVec 32 := 3#32
  let v864 : BitVec 32 := Scalar.shrsi v863 c3_i32_341
  let c3_i32_342 : BitVec 32 := 3#32
  let v865 : BitVec 32 := Scalar.shli v864 c3_i32_342
  let v866 : BitVec 32 := v865
  let v867 : Index := Scalar.indexCast v866
  let c0_343 : Index := 0#32
  ![v867.toNat, 0]

def k0_chk23 (v863 : BitVec 32) : Prop :=
  (8 ∣ (k0_mult24 v863).toNat) ∧
  (∀ a, (k0_off46 v863) a + S8x64.size a ≤ S9600x64.size a)
theorem k0_mult24_dvd : ∀ (v863 : BitVec 32) (k0_hw23 : k0_chk23 v863), 8 ∣ (k0_mult24 v863).toNat := fun v863 k0_hw23 => k0_hw23.1
theorem k0_off46_inb : ∀ (v863 : BitVec 32) (k0_hw23 : k0_chk23 v863), ∀ a, (k0_off46 v863) a + S8x64.size a ≤ S9600x64.size a := fun v863 k0_hw23 => k0_hw23.2

def k0_off47 (i : grid0.Coords) (k0_t1 : Fin k0_t1_loop.trips) : Fin 2 → Nat :=
  let c3_348 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v828 : BitVec 32 := Scalar.addi v18 v497
  let c5_i32 : BitVec 32 := 5#32
  let v829 : BitVec 32 := Scalar.addi v828 c5_i32
  let v878 : Index := Scalar.indexCast v829
  ![3, v878.toNat]
def k0_mult25 (v879 : BitVec 32) : BitVec 32 :=
  let c3_i32_349 : BitVec 32 := 3#32
  let v880 : BitVec 32 := Scalar.shrsi v879 c3_i32_349
  let c3_i32_350 : BitVec 32 := 3#32
  let v881 : BitVec 32 := Scalar.shli v880 c3_i32_350
  v881

def k0_off48 (v879 : BitVec 32) : Fin 2 → Nat :=
  let c3_i32_349 : BitVec 32 := 3#32
  let v880 : BitVec 32 := Scalar.shrsi v879 c3_i32_349
  let c3_i32_350 : BitVec 32 := 3#32
  let v881 : BitVec 32 := Scalar.shli v880 c3_i32_350
  let v882 : BitVec 32 := v881
  let v883 : Index := Scalar.indexCast v882
  let c0_351 : Index := 0#32
  ![v883.toNat, 0]

def k0_chk24 (v879 : BitVec 32) : Prop :=
  (8 ∣ (k0_mult25 v879).toNat) ∧
  (∀ a, (k0_off48 v879) a + S8x64.size a ≤ S9600x64.size a)
theorem k0_mult25_dvd : ∀ (v879 : BitVec 32) (k0_hw24 : k0_chk24 v879), 8 ∣ (k0_mult25 v879).toNat := fun v879 k0_hw24 => k0_hw24.1
theorem k0_off48_inb : ∀ (v879 : BitVec 32) (k0_hw24 : k0_chk24 v879), ∀ a, (k0_off48 v879) a + S8x64.size a ≤ S9600x64.size a := fun v879 k0_hw24 => k0_hw24.2

def k0_off49 (i : grid0.Coords) (k0_t1 : Fin k0_t1_loop.trips) : Fin 2 → Nat :=
  let c0_356 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v894 : BitVec 32 := Scalar.addi v18 v497
  let c6_i32 : BitVec 32 := 6#32
  let v895 : BitVec 32 := Scalar.addi v894 c6_i32
  let v896 : Index := Scalar.indexCast v895
  ![0, v896.toNat]
def k0_mult26 (v897 : BitVec 32) : BitVec 32 :=
  let c3_i32_357 : BitVec 32 := 3#32
  let v898 : BitVec 32 := Scalar.shrsi v897 c3_i32_357
  let c3_i32_358 : BitVec 32 := 3#32
  let v899 : BitVec 32 := Scalar.shli v898 c3_i32_358
  v899

def k0_off50 (v897 : BitVec 32) : Fin 2 → Nat :=
  let c3_i32_357 : BitVec 32 := 3#32
  let v898 : BitVec 32 := Scalar.shrsi v897 c3_i32_357
  let c3_i32_358 : BitVec 32 := 3#32
  let v899 : BitVec 32 := Scalar.shli v898 c3_i32_358
  let v900 : BitVec 32 := v899
  let v901 : Index := Scalar.indexCast v900
  let c0_359 : Index := 0#32
  ![v901.toNat, 0]

def k0_chk25 (v897 : BitVec 32) : Prop :=
  (8 ∣ (k0_mult26 v897).toNat) ∧
  (∀ a, (k0_off50 v897) a + S8x64.size a ≤ S9600x64.size a)
theorem k0_mult26_dvd : ∀ (v897 : BitVec 32) (k0_hw25 : k0_chk25 v897), 8 ∣ (k0_mult26 v897).toNat := fun v897 k0_hw25 => k0_hw25.1
theorem k0_off50_inb : ∀ (v897 : BitVec 32) (k0_hw25 : k0_chk25 v897), ∀ a, (k0_off50 v897) a + S8x64.size a ≤ S9600x64.size a := fun v897 k0_hw25 => k0_hw25.2

def k0_off51 (i : grid0.Coords) (k0_t1 : Fin k0_t1_loop.trips) : Fin 2 → Nat :=
  let c1_364 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v894 : BitVec 32 := Scalar.addi v18 v497
  let c6_i32 : BitVec 32 := 6#32
  let v895 : BitVec 32 := Scalar.addi v894 c6_i32
  let v912 : Index := Scalar.indexCast v895
  ![1, v912.toNat]
def k0_mult27 (v913 : BitVec 32) : BitVec 32 :=
  let c3_i32_365 : BitVec 32 := 3#32
  let v914 : BitVec 32 := Scalar.shrsi v913 c3_i32_365
  let c3_i32_366 : BitVec 32 := 3#32
  let v915 : BitVec 32 := Scalar.shli v914 c3_i32_366
  v915

def k0_off52 (v913 : BitVec 32) : Fin 2 → Nat :=
  let c3_i32_365 : BitVec 32 := 3#32
  let v914 : BitVec 32 := Scalar.shrsi v913 c3_i32_365
  let c3_i32_366 : BitVec 32 := 3#32
  let v915 : BitVec 32 := Scalar.shli v914 c3_i32_366
  let v916 : BitVec 32 := v915
  let v917 : Index := Scalar.indexCast v916
  let c0_367 : Index := 0#32
  ![v917.toNat, 0]

def k0_chk26 (v913 : BitVec 32) : Prop :=
  (8 ∣ (k0_mult27 v913).toNat) ∧
  (∀ a, (k0_off52 v913) a + S8x64.size a ≤ S9600x64.size a)
theorem k0_mult27_dvd : ∀ (v913 : BitVec 32) (k0_hw26 : k0_chk26 v913), 8 ∣ (k0_mult27 v913).toNat := fun v913 k0_hw26 => k0_hw26.1
theorem k0_off52_inb : ∀ (v913 : BitVec 32) (k0_hw26 : k0_chk26 v913), ∀ a, (k0_off52 v913) a + S8x64.size a ≤ S9600x64.size a := fun v913 k0_hw26 => k0_hw26.2

def k0_off53 (i : grid0.Coords) (k0_t1 : Fin k0_t1_loop.trips) : Fin 2 → Nat :=
  let c2_372 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v894 : BitVec 32 := Scalar.addi v18 v497
  let c6_i32 : BitVec 32 := 6#32
  let v895 : BitVec 32 := Scalar.addi v894 c6_i32
  let v928 : Index := Scalar.indexCast v895
  ![2, v928.toNat]
def k0_mult28 (v929 : BitVec 32) : BitVec 32 :=
  let c3_i32_373 : BitVec 32 := 3#32
  let v930 : BitVec 32 := Scalar.shrsi v929 c3_i32_373
  let c3_i32_374 : BitVec 32 := 3#32
  let v931 : BitVec 32 := Scalar.shli v930 c3_i32_374
  v931

def k0_off54 (v929 : BitVec 32) : Fin 2 → Nat :=
  let c3_i32_373 : BitVec 32 := 3#32
  let v930 : BitVec 32 := Scalar.shrsi v929 c3_i32_373
  let c3_i32_374 : BitVec 32 := 3#32
  let v931 : BitVec 32 := Scalar.shli v930 c3_i32_374
  let v932 : BitVec 32 := v931
  let v933 : Index := Scalar.indexCast v932
  let c0_375 : Index := 0#32
  ![v933.toNat, 0]

def k0_chk27 (v929 : BitVec 32) : Prop :=
  (8 ∣ (k0_mult28 v929).toNat) ∧
  (∀ a, (k0_off54 v929) a + S8x64.size a ≤ S9600x64.size a)
theorem k0_mult28_dvd : ∀ (v929 : BitVec 32) (k0_hw27 : k0_chk27 v929), 8 ∣ (k0_mult28 v929).toNat := fun v929 k0_hw27 => k0_hw27.1
theorem k0_off54_inb : ∀ (v929 : BitVec 32) (k0_hw27 : k0_chk27 v929), ∀ a, (k0_off54 v929) a + S8x64.size a ≤ S9600x64.size a := fun v929 k0_hw27 => k0_hw27.2

def k0_off55 (i : grid0.Coords) (k0_t1 : Fin k0_t1_loop.trips) : Fin 2 → Nat :=
  let c3_380 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v894 : BitVec 32 := Scalar.addi v18 v497
  let c6_i32 : BitVec 32 := 6#32
  let v895 : BitVec 32 := Scalar.addi v894 c6_i32
  let v944 : Index := Scalar.indexCast v895
  ![3, v944.toNat]
def k0_mult29 (v945 : BitVec 32) : BitVec 32 :=
  let c3_i32_381 : BitVec 32 := 3#32
  let v946 : BitVec 32 := Scalar.shrsi v945 c3_i32_381
  let c3_i32_382 : BitVec 32 := 3#32
  let v947 : BitVec 32 := Scalar.shli v946 c3_i32_382
  v947

def k0_off56 (v945 : BitVec 32) : Fin 2 → Nat :=
  let c3_i32_381 : BitVec 32 := 3#32
  let v946 : BitVec 32 := Scalar.shrsi v945 c3_i32_381
  let c3_i32_382 : BitVec 32 := 3#32
  let v947 : BitVec 32 := Scalar.shli v946 c3_i32_382
  let v948 : BitVec 32 := v947
  let v949 : Index := Scalar.indexCast v948
  let c0_383 : Index := 0#32
  ![v949.toNat, 0]

def k0_chk28 (v945 : BitVec 32) : Prop :=
  (8 ∣ (k0_mult29 v945).toNat) ∧
  (∀ a, (k0_off56 v945) a + S8x64.size a ≤ S9600x64.size a)
theorem k0_mult29_dvd : ∀ (v945 : BitVec 32) (k0_hw28 : k0_chk28 v945), 8 ∣ (k0_mult29 v945).toNat := fun v945 k0_hw28 => k0_hw28.1
theorem k0_off56_inb : ∀ (v945 : BitVec 32) (k0_hw28 : k0_chk28 v945), ∀ a, (k0_off56 v945) a + S8x64.size a ≤ S9600x64.size a := fun v945 k0_hw28 => k0_hw28.2

def k0_off57 (i : grid0.Coords) (k0_t1 : Fin k0_t1_loop.trips) : Fin 2 → Nat :=
  let c0_389 : Index := 0#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v960 : BitVec 32 := Scalar.addi v18 v497
  let c7_i32_388 : BitVec 32 := 7#32
  let v961 : BitVec 32 := Scalar.addi v960 c7_i32_388
  let v962 : Index := Scalar.indexCast v961
  ![0, v962.toNat]
def k0_mult30 (v963 : BitVec 32) : BitVec 32 :=
  let c3_i32_390 : BitVec 32 := 3#32
  let v964 : BitVec 32 := Scalar.shrsi v963 c3_i32_390
  let c3_i32_391 : BitVec 32 := 3#32
  let v965 : BitVec 32 := Scalar.shli v964 c3_i32_391
  v965

def k0_off58 (v963 : BitVec 32) : Fin 2 → Nat :=
  let c3_i32_390 : BitVec 32 := 3#32
  let v964 : BitVec 32 := Scalar.shrsi v963 c3_i32_390
  let c3_i32_391 : BitVec 32 := 3#32
  let v965 : BitVec 32 := Scalar.shli v964 c3_i32_391
  let v966 : BitVec 32 := v965
  let v967 : Index := Scalar.indexCast v966
  let c0_392 : Index := 0#32
  ![v967.toNat, 0]

def k0_chk29 (v963 : BitVec 32) : Prop :=
  (8 ∣ (k0_mult30 v963).toNat) ∧
  (∀ a, (k0_off58 v963) a + S8x64.size a ≤ S9600x64.size a)
theorem k0_mult30_dvd : ∀ (v963 : BitVec 32) (k0_hw29 : k0_chk29 v963), 8 ∣ (k0_mult30 v963).toNat := fun v963 k0_hw29 => k0_hw29.1
theorem k0_off58_inb : ∀ (v963 : BitVec 32) (k0_hw29 : k0_chk29 v963), ∀ a, (k0_off58 v963) a + S8x64.size a ≤ S9600x64.size a := fun v963 k0_hw29 => k0_hw29.2

def k0_off59 (i : grid0.Coords) (k0_t1 : Fin k0_t1_loop.trips) : Fin 2 → Nat :=
  let c1_397 : Index := 1#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v960 : BitVec 32 := Scalar.addi v18 v497
  let c7_i32_388 : BitVec 32 := 7#32
  let v961 : BitVec 32 := Scalar.addi v960 c7_i32_388
  let v978 : Index := Scalar.indexCast v961
  ![1, v978.toNat]
def k0_mult31 (v979 : BitVec 32) : BitVec 32 :=
  let c3_i32_398 : BitVec 32 := 3#32
  let v980 : BitVec 32 := Scalar.shrsi v979 c3_i32_398
  let c3_i32_399 : BitVec 32 := 3#32
  let v981 : BitVec 32 := Scalar.shli v980 c3_i32_399
  v981

def k0_off60 (v979 : BitVec 32) : Fin 2 → Nat :=
  let c3_i32_398 : BitVec 32 := 3#32
  let v980 : BitVec 32 := Scalar.shrsi v979 c3_i32_398
  let c3_i32_399 : BitVec 32 := 3#32
  let v981 : BitVec 32 := Scalar.shli v980 c3_i32_399
  let v982 : BitVec 32 := v981
  let v983 : Index := Scalar.indexCast v982
  let c0_400 : Index := 0#32
  ![v983.toNat, 0]

def k0_chk30 (v979 : BitVec 32) : Prop :=
  (8 ∣ (k0_mult31 v979).toNat) ∧
  (∀ a, (k0_off60 v979) a + S8x64.size a ≤ S9600x64.size a)
theorem k0_mult31_dvd : ∀ (v979 : BitVec 32) (k0_hw30 : k0_chk30 v979), 8 ∣ (k0_mult31 v979).toNat := fun v979 k0_hw30 => k0_hw30.1
theorem k0_off60_inb : ∀ (v979 : BitVec 32) (k0_hw30 : k0_chk30 v979), ∀ a, (k0_off60 v979) a + S8x64.size a ≤ S9600x64.size a := fun v979 k0_hw30 => k0_hw30.2

def k0_off61 (i : grid0.Coords) (k0_t1 : Fin k0_t1_loop.trips) : Fin 2 → Nat :=
  let c2_405 : Index := 2#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v960 : BitVec 32 := Scalar.addi v18 v497
  let c7_i32_388 : BitVec 32 := 7#32
  let v961 : BitVec 32 := Scalar.addi v960 c7_i32_388
  let v994 : Index := Scalar.indexCast v961
  ![2, v994.toNat]
def k0_mult32 (v995 : BitVec 32) : BitVec 32 :=
  let c3_i32_406 : BitVec 32 := 3#32
  let v996 : BitVec 32 := Scalar.shrsi v995 c3_i32_406
  let c3_i32_407 : BitVec 32 := 3#32
  let v997 : BitVec 32 := Scalar.shli v996 c3_i32_407
  v997

def k0_off62 (v995 : BitVec 32) : Fin 2 → Nat :=
  let c3_i32_406 : BitVec 32 := 3#32
  let v996 : BitVec 32 := Scalar.shrsi v995 c3_i32_406
  let c3_i32_407 : BitVec 32 := 3#32
  let v997 : BitVec 32 := Scalar.shli v996 c3_i32_407
  let v998 : BitVec 32 := v997
  let v999 : Index := Scalar.indexCast v998
  let c0_408 : Index := 0#32
  ![v999.toNat, 0]

def k0_chk31 (v995 : BitVec 32) : Prop :=
  (8 ∣ (k0_mult32 v995).toNat) ∧
  (∀ a, (k0_off62 v995) a + S8x64.size a ≤ S9600x64.size a)
theorem k0_mult32_dvd : ∀ (v995 : BitVec 32) (k0_hw31 : k0_chk31 v995), 8 ∣ (k0_mult32 v995).toNat := fun v995 k0_hw31 => k0_hw31.1
theorem k0_off62_inb : ∀ (v995 : BitVec 32) (k0_hw31 : k0_chk31 v995), ∀ a, (k0_off62 v995) a + S8x64.size a ≤ S9600x64.size a := fun v995 k0_hw31 => k0_hw31.2

def k0_off63 (i : grid0.Coords) (k0_t1 : Fin k0_t1_loop.trips) : Fin 2 → Nat :=
  let c3_413 : Index := 3#32
  let arg0 : BitVec 32 := BitVec.ofNat 32 (i 0).val
  let c512_i32 : BitVec 32 := 512#32
  let v18 : BitVec 32 := Scalar.muli arg0 c512_i32
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v960 : BitVec 32 := Scalar.addi v18 v497
  let c7_i32_388 : BitVec 32 := 7#32
  let v961 : BitVec 32 := Scalar.addi v960 c7_i32_388
  let v1010 : Index := Scalar.indexCast v961
  ![3, v1010.toNat]
def k0_mult33 (v1011 : BitVec 32) : BitVec 32 :=
  let c3_i32_414 : BitVec 32 := 3#32
  let v1012 : BitVec 32 := Scalar.shrsi v1011 c3_i32_414
  let c3_i32_415 : BitVec 32 := 3#32
  let v1013 : BitVec 32 := Scalar.shli v1012 c3_i32_415
  v1013

def k0_off64 (v1011 : BitVec 32) : Fin 2 → Nat :=
  let c3_i32_414 : BitVec 32 := 3#32
  let v1012 : BitVec 32 := Scalar.shrsi v1011 c3_i32_414
  let c3_i32_415 : BitVec 32 := 3#32
  let v1013 : BitVec 32 := Scalar.shli v1012 c3_i32_415
  let v1014 : BitVec 32 := v1013
  let v1015 : Index := Scalar.indexCast v1014
  let c0_416 : Index := 0#32
  ![v1015.toNat, 0]

def k0_chk32 (v1011 : BitVec 32) : Prop :=
  (8 ∣ (k0_mult33 v1011).toNat) ∧
  (∀ a, (k0_off64 v1011) a + S8x64.size a ≤ S9600x64.size a)
theorem k0_mult33_dvd : ∀ (v1011 : BitVec 32) (k0_hw32 : k0_chk32 v1011), 8 ∣ (k0_mult33 v1011).toNat := fun v1011 k0_hw32 => k0_hw32.1
theorem k0_off64_inb : ∀ (v1011 : BitVec 32) (k0_hw32 : k0_chk32 v1011), ∀ a, (k0_off64 v1011) a + S8x64.size a ≤ S9600x64.size a := fun v1011 k0_hw32 => k0_hw32.2

def k0_off65 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v496 : BitVec 32 := Scalar.muli arg14 c8_i32
  let v497 : BitVec 32 := v496
  let v1027 : Index := Scalar.indexCast v497
  let c0_421 : Index := 0#32
  ![v1027.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x4800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64x4800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x4 : Shape := ⟨2, ![1024, 4]⟩
abbrev S2x64x60x80 : Shape := ⟨4, ![2, 64, 60, 80]⟩
abbrev S2x3x3 : Shape := ⟨3, ![2, 3, 3]⟩
abbrev S2x1x480x640 : Shape := ⟨4, ![2, 1, 480, 640]⟩
abbrev S2 : Shape := ⟨1, ![2]⟩
abbrev S_ : Shape := ⟨0, ![]⟩
abbrev S2x1 : Shape := ⟨2, ![2, 1]⟩
abbrev S1024x2 : Shape := ⟨2, ![1024, 2]⟩
abbrev S1x1024x2 : Shape := ⟨3, ![1, 1024, 2]⟩
abbrev S1024 : Shape := ⟨1, ![1024]⟩
abbrev S1x1024x1 : Shape := ⟨3, ![1, 1024, 1]⟩
abbrev S60 : Shape := ⟨1, ![60]⟩
abbrev S80 : Shape := ⟨1, ![80]⟩
abbrev S60x80 : Shape := ⟨2, ![60, 80]⟩
abbrev S60x80x1 : Shape := ⟨3, ![60, 80, 1]⟩
abbrev S60x80x2 : Shape := ⟨3, ![60, 80, 2]⟩
abbrev S2x60x80x2 : Shape := ⟨4, ![2, 60, 80, 2]⟩
abbrev S2x60x80x1 : Shape := ⟨4, ![2, 60, 80, 1]⟩
abbrev S2x60x80x3 : Shape := ⟨4, ![2, 60, 80, 3]⟩
abbrev S2x1x60x8x80x8 : Shape := ⟨6, ![2, 1, 60, 8, 80, 8]⟩
abbrev S2x1x8x8x60x80 : Shape := ⟨6, ![2, 1, 8, 8, 60, 80]⟩
abbrev S2x32x60x80 : Shape := ⟨4, ![2, 32, 60, 80]⟩
abbrev S2x16x60x80 : Shape := ⟨4, ![2, 16, 60, 80]⟩
abbrev S2x8x60x80 : Shape := ⟨4, ![2, 8, 60, 80]⟩
abbrev S2x4x60x80 : Shape := ⟨4, ![2, 4, 60, 80]⟩
abbrev S2x2x60x80 : Shape := ⟨4, ![2, 2, 60, 80]⟩
abbrev S2x1x60x80 : Shape := ⟨4, ![2, 1, 60, 80]⟩
abbrev S1x1024x1x1x2 : Shape := ⟨5, ![1, 1024, 1, 1, 2]⟩
abbrev S2x1x60x80x2 : Shape := ⟨5, ![2, 1, 60, 80, 2]⟩
abbrev S2x1024x60x80x2 : Shape := ⟨5, ![2, 1024, 60, 80, 2]⟩
abbrev S2x1024x60x80 : Shape := ⟨4, ![2, 1024, 60, 80]⟩
abbrev S1024x1 : Shape := ⟨2, ![1024, 1]⟩
abbrev S1024x3 : Shape := ⟨2, ![1024, 3]⟩
abbrev S1024x64 : Shape := ⟨2, ![1024, 64]⟩
abbrev S1x1024x1x1 : Shape := ⟨4, ![1, 1024, 1, 1]⟩
abbrev S2x60x80 : Shape := ⟨3, ![2, 60, 80]⟩
abbrev S2x60x80x1024 : Shape := ⟨4, ![2, 60, 80, 1024]⟩
abbrev S2x1024x4800 : Shape := ⟨3, ![2, 1024, 4800]⟩
abbrev S2x1024 : Shape := ⟨2, ![2, 1024]⟩

abbrev nBuf : Space → Nat
  | .hbm => 317
  | .vmem => 0
  | .smem => 0
  | _ => 0

abbrev hbmTy0_0 (i : Nat) : BufTy := match i % 128 with
  | 0 => ⟨S1024x4, .f32⟩
  | 1 => ⟨S2x64x60x80, .f32⟩
  | 2 => ⟨S2x64x60x80, .f32⟩
  | 3 => ⟨S2x3x3, .f32⟩
  | 4 => ⟨S2x1x480x640, .f32⟩
  | 5 => ⟨S2, .i32⟩
  | 6 => ⟨S_, .i32⟩
  | 7 => ⟨S2, .i32⟩
  | 8 => ⟨S2, .i1⟩
  | 9 => ⟨S_, .i32⟩
  | 10 => ⟨S2, .i32⟩
  | 11 => ⟨S2, .i32⟩
  | 12 => ⟨S2, .i32⟩
  | 13 => ⟨S2x1, .i32⟩
  | 14 => ⟨S1024x2, .f32⟩
  | 15 => ⟨S1x1024x2, .f32⟩
  | 16 => ⟨S1024, .i32⟩
  | 17 => ⟨S1x1024x1, .i32⟩
  | 18 => ⟨S_, .i32⟩
  | 19 => ⟨S1x1024x1, .i32⟩
  | 20 => ⟨S1x1024x1, .i1⟩
  | 21 => ⟨S_, .f32⟩
  | 22 => ⟨S1x1024x2, .f32⟩
  | 23 => ⟨S1x1024x2, .f32⟩
  | 24 => ⟨S1x1024x2, .i1⟩
  | 25 => ⟨S1x1024x2, .f32⟩
  | 26 => ⟨S60, .i32⟩
  | 27 => ⟨S80, .i32⟩
  | 28 => ⟨S60x80, .i32⟩
  | 29 => ⟨S60x80, .i32⟩
  | 30 => ⟨S60x80x1, .i32⟩
  | 31 => ⟨S60x80x1, .i32⟩
  | 32 => ⟨S60x80x2, .i32⟩
  | 33 => ⟨S60x80x2, .f32⟩
  | 34 => ⟨S_, .f32⟩
  | 35 => ⟨S60x80x2, .f32⟩
  | 36 => ⟨S60x80x2, .f32⟩
  | 37 => ⟨S_, .f32⟩
  | 38 => ⟨S60x80x2, .f32⟩
  | 39 => ⟨S60x80x2, .f32⟩
  | 40 => ⟨S2x60x80x2, .f32⟩
  | 41 => ⟨S_, .f32⟩
  | 42 => ⟨S2x60x80x1, .f32⟩
  | 43 => ⟨S2x60x80x3, .f32⟩
  | 44 => ⟨S2x60x80x3, .f32⟩
  | 45 => ⟨S2x60x80x2, .f32⟩
  | 46 => ⟨S2x60x80x1, .f32⟩
  | 47 => ⟨S2x60x80x2, .f32⟩
  | 48 => ⟨S2x60x80x2, .f32⟩
  | 49 => ⟨S2x1x60x8x80x8, .f32⟩
  | 50 => ⟨S2x1x8x8x60x80, .f32⟩
  | 51 => ⟨S2x64x60x80, .f32⟩
  | 52 => ⟨S2x32x60x80, .f32⟩
  | 53 => ⟨S2x32x60x80, .f32⟩
  | 54 => ⟨S2x32x60x80, .f32⟩
  | 55 => ⟨S2x16x60x80, .f32⟩
  | 56 => ⟨S2x16x60x80, .f32⟩
  | 57 => ⟨S2x16x60x80, .f32⟩
  | 58 => ⟨S2x8x60x80, .f32⟩
  | 59 => ⟨S2x8x60x80, .f32⟩
  | 60 => ⟨S2x8x60x80, .f32⟩
  | 61 => ⟨S2x4x60x80, .f32⟩
  | 62 => ⟨S2x4x60x80, .f32⟩
  | 63 => ⟨S2x4x60x80, .f32⟩
  | 64 => ⟨S2x2x60x80, .f32⟩
  | 65 => ⟨S2x2x60x80, .f32⟩
  | 66 => ⟨S2x2x60x80, .f32⟩
  | 67 => ⟨S2x1x60x80, .f32⟩
  | 68 => ⟨S2x1x60x80, .f32⟩
  | 69 => ⟨S2x1x60x80, .f32⟩
  | 70 => ⟨S1x1024x1x1x2, .f32⟩
  | 71 => ⟨S2x1x60x80x2, .f32⟩
  | 72 => ⟨S2x1024x60x80x2, .f32⟩
  | 73 => ⟨S2x1024x60x80x2, .f32⟩
  | 74 => ⟨S2x1024x60x80x2, .f32⟩
  | 75 => ⟨S2x1024x60x80x2, .f32⟩
  | 76 => ⟨S_, .f32⟩
  | 77 => ⟨S2x1024x60x80, .f32⟩
  | 78 => ⟨S2x1024x60x80, .f32⟩
  | 79 => ⟨S_, .f32⟩
  | 80 => ⟨S2x1024x60x80, .f32⟩
  | 81 => ⟨S2x1024x60x80, .i1⟩
  | 82 => ⟨S2x1024x60x80, .f32⟩
  | 83 => ⟨S_, .f32⟩
  | 84 => ⟨S2x1024x60x80, .f32⟩
  | 85 => ⟨S2x1024x60x80, .f32⟩
  | 86 => ⟨S2x1024x60x80, .f32⟩
  | 87 => ⟨S2x1024x60x80, .f32⟩
  | 88 => ⟨S2x1024x60x80, .f32⟩
  | 89 => ⟨S2x1024x60x80, .f32⟩
  | 90 => ⟨S1024x1, .f32⟩
  | 91 => ⟨S1024, .f32⟩
  | 92 => ⟨S1024, .i32⟩
  | 93 => ⟨S1024x1, .f32⟩
  | 94 => ⟨S1024, .f32⟩
  | 95 => ⟨S_, .f32⟩
  | 96 => ⟨S1024, .f32⟩
  | 97 => ⟨S1024, .f32⟩
  | 98 => ⟨S_, .f32⟩
  | 99 => ⟨S_, .f32⟩
  | 100 => ⟨S_, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024x1, .f32⟩
  | 107 => ⟨S1024, .f32⟩
  | 108 => ⟨S_, .f32⟩
  | 109 => ⟨S1024, .f32⟩
  | 110 => ⟨S1024, .f32⟩
  | 111 => ⟨S_, .f32⟩
  | 112 => ⟨S_, .f32⟩
  | 113 => ⟨S_, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S_, .f32⟩
  | _ => ⟨S1024x4, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S1024x1, .f32⟩
  | 7 => ⟨S1024, .f32⟩
  | 8 => ⟨S1024x1, .f32⟩
  | 9 => ⟨S1024, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S1024x1, .i32⟩
  | 36 => ⟨S1024x1, .i32⟩
  | 37 => ⟨S1024x3, .i32⟩
  | 38 => ⟨S1024x64, .f32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S_, .i32⟩
  | 47 => ⟨S1024, .i32⟩
  | 48 => ⟨S1024, .i1⟩
  | 49 => ⟨S_, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1024x1, .i32⟩
  | 62 => ⟨S1024x1, .i32⟩
  | 63 => ⟨S1024x3, .i32⟩
  | 64 => ⟨S1024x64, .f32⟩
  | 65 => ⟨S_, .i32⟩
  | 66 => ⟨S1024, .i32⟩
  | 67 => ⟨S1024, .i1⟩
  | 68 => ⟨S_, .i32⟩
  | 69 => ⟨S1024, .i32⟩
  | 70 => ⟨S1024, .i32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i32⟩
  | 78 => ⟨S1024, .i32⟩
  | 79 => ⟨S_, .i32⟩
  | 80 => ⟨S1024, .i32⟩
  | 81 => ⟨S1024, .i1⟩
  | 82 => ⟨S_, .i32⟩
  | 83 => ⟨S1024, .i32⟩
  | 84 => ⟨S1024, .i32⟩
  | 85 => ⟨S1024, .i32⟩
  | 86 => ⟨S1024x1, .i32⟩
  | 87 => ⟨S1024x1, .i32⟩
  | 88 => ⟨S1024x1, .i32⟩
  | 89 => ⟨S1024x3, .i32⟩
  | 90 => ⟨S1024x64, .f32⟩
  | 91 => ⟨S_, .i32⟩
  | 92 => ⟨S1024, .i32⟩
  | 93 => ⟨S1024, .i1⟩
  | 94 => ⟨S_, .i32⟩
  | 95 => ⟨S1024, .i32⟩
  | 96 => ⟨S1024, .i32⟩
  | 97 => ⟨S1024, .i32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S_, .i32⟩
  | 106 => ⟨S1024, .i32⟩
  | 107 => ⟨S1024, .i1⟩
  | 108 => ⟨S_, .i32⟩
  | 109 => ⟨S1024, .i32⟩
  | 110 => ⟨S1024, .i32⟩
  | 111 => ⟨S1024, .i32⟩
  | 112 => ⟨S1024x1, .i32⟩
  | 113 => ⟨S1024x1, .i32⟩
  | 114 => ⟨S1024x1, .i32⟩
  | 115 => ⟨S1024x3, .i32⟩
  | 116 => ⟨S1024x64, .f32⟩
  | 117 => ⟨S_, .f32⟩
  | 118 => ⟨S1024x1, .f32⟩
  | 119 => ⟨S1024x1, .f32⟩
  | 120 => ⟨S_, .f32⟩
  | 121 => ⟨S1024x1, .f32⟩
  | 122 => ⟨S1024x1, .f32⟩
  | 123 => ⟨S1024x64, .f32⟩
  | 124 => ⟨S1024x64, .f32⟩
  | 125 => ⟨S1024x64, .f32⟩
  | 126 => ⟨S1024x64, .f32⟩
  | 127 => ⟨S1024x64, .f32⟩
  | _ => ⟨S1024x4, .f32⟩

abbrev hbmTy0_2 (i : Nat) : BufTy := match i % 128 with
  | 0 => ⟨S1024x64, .f32⟩
  | 1 => ⟨S1024x64, .f32⟩
  | 2 => ⟨S_, .f32⟩
  | 3 => ⟨S1024x1, .f32⟩
  | 4 => ⟨S1024x1, .f32⟩
  | 5 => ⟨S1024x64, .f32⟩
  | 6 => ⟨S1024x64, .f32⟩
  | 7 => ⟨S1024x64, .f32⟩
  | 8 => ⟨S1024x64, .f32⟩
  | 9 => ⟨S1024x64, .f32⟩
  | 10 => ⟨S1024x64, .f32⟩
  | 11 => ⟨S1024x64, .f32⟩
  | 12 => ⟨S1024x64, .f32⟩
  | 13 => ⟨S1024x64, .f32⟩
  | 14 => ⟨S_, .f32⟩
  | 15 => ⟨S1024, .f32⟩
  | 16 => ⟨S1x1024x1x1, .f32⟩
  | 17 => ⟨S2x64x60x80, .f32⟩
  | 18 => ⟨S_, .f32⟩
  | 19 => ⟨S2x60x80, .f32⟩
  | 20 => ⟨S2x1x60x80, .f32⟩
  | 21 => ⟨S2x1024x60x80, .f32⟩
  | 22 => ⟨S2x1024x60x80, .f32⟩
  | 23 => ⟨S2x1024x60x80, .f32⟩
  | 24 => ⟨S2x60x80x1024, .f32⟩
  | 25 => ⟨S2x1024x60x80, .f32⟩
  | 26 => ⟨S_, .f32⟩
  | 27 => ⟨S2x1024x60x80, .f32⟩
  | 28 => ⟨S2x1024x60x80, .f32⟩
  | 29 => ⟨S2x1024x60x80, .f32⟩
  | 30 => ⟨S_, .f32⟩
  | 31 => ⟨S2x1024x60x80, .f32⟩
  | 32 => ⟨S2x1024x60x80, .f32⟩
  | 33 => ⟨S2x1024x60x80, .f32⟩
  | 34 => ⟨S_, .f32⟩
  | 35 => ⟨S2x1024x60x80, .f32⟩
  | 36 => ⟨S2x1024x60x80, .f32⟩
  | 37 => ⟨S2x1024x60x80, .f32⟩
  | 38 => ⟨S2x1024x4800, .f32⟩
  | 39 => ⟨S_, .f32⟩
  | 40 => ⟨S2x1024, .f32⟩
  | 41 => ⟨S_, .f32⟩
  | 42 => ⟨S2x1024x60x80, .f32⟩
  | 43 => ⟨S2x1024x60x80, .f32⟩
  | 44 => ⟨S2x1024x60x80, .f32⟩
  | 45 => ⟨S2x1024x4800, .f32⟩
  | 46 => ⟨S_, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | _ => ⟨S1024x4, .f32⟩

abbrev hbmTy (i : Nat) : BufTy := match i / 128 with
  | 0 => hbmTy0_0 i
  | 1 => hbmTy0_1 i
  | 2 => hbmTy0_2 i
  | _ => ⟨S1024x4, .f32⟩

abbrev bufTy : (tb : Table) → Fin (tcTables nBuf tb) → BufTy
  | .hbm, ⟨i, _⟩ => hbmTy i
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call1_v0 : Ref sig .tc := ⟨.hbm, 75, rfl⟩
abbrev main_call1_cst : Ref sig .tc := ⟨.hbm, 76, rfl⟩
abbrev main_call1_v1 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_cst_10 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_cst_13 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_14 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_cst_17 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_18 : Ref sig .tc := ⟨.hbm, 141, rfl⟩
abbrev main_v102 : Ref sig .tc := ⟨.hbm, 142, rfl⟩
abbrev main_v103 : Ref sig .tc := ⟨.hbm, 143, rfl⟩
abbrev main_c_19 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_20 : Ref sig .tc := ⟨.hbm, 148, rfl⟩
abbrev main_v107 : Ref sig .tc := ⟨.hbm, 149, rfl⟩
abbrev main_v108 : Ref sig .tc := ⟨.hbm, 150, rfl⟩
abbrev main_c_21 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_22 : Ref sig .tc := ⟨.hbm, 155, rfl⟩
abbrev main_v112 : Ref sig .tc := ⟨.hbm, 156, rfl⟩
abbrev main_v113 : Ref sig .tc := ⟨.hbm, 157, rfl⟩
abbrev main_c_23 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_24 : Ref sig .tc := ⟨.hbm, 167, rfl⟩
abbrev main_v122 : Ref sig .tc := ⟨.hbm, 168, rfl⟩
abbrev main_v123 : Ref sig .tc := ⟨.hbm, 169, rfl⟩
abbrev main_c_25 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_c_26 : Ref sig .tc := ⟨.hbm, 174, rfl⟩
abbrev main_v127 : Ref sig .tc := ⟨.hbm, 175, rfl⟩
abbrev main_v128 : Ref sig .tc := ⟨.hbm, 176, rfl⟩
abbrev main_c_27 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_c_28 : Ref sig .tc := ⟨.hbm, 181, rfl⟩
abbrev main_v132 : Ref sig .tc := ⟨.hbm, 182, rfl⟩
abbrev main_v133 : Ref sig .tc := ⟨.hbm, 183, rfl⟩
abbrev main_c_29 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_c_30 : Ref sig .tc := ⟨.hbm, 193, rfl⟩
abbrev main_v142 : Ref sig .tc := ⟨.hbm, 194, rfl⟩
abbrev main_v143 : Ref sig .tc := ⟨.hbm, 195, rfl⟩
abbrev main_c_31 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_c_32 : Ref sig .tc := ⟨.hbm, 200, rfl⟩
abbrev main_v147 : Ref sig .tc := ⟨.hbm, 201, rfl⟩
abbrev main_v148 : Ref sig .tc := ⟨.hbm, 202, rfl⟩
abbrev main_c_33 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_c_34 : Ref sig .tc := ⟨.hbm, 207, rfl⟩
abbrev main_v152 : Ref sig .tc := ⟨.hbm, 208, rfl⟩
abbrev main_v153 : Ref sig .tc := ⟨.hbm, 209, rfl⟩
abbrev main_c_35 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_c_36 : Ref sig .tc := ⟨.hbm, 219, rfl⟩
abbrev main_v162 : Ref sig .tc := ⟨.hbm, 220, rfl⟩
abbrev main_v163 : Ref sig .tc := ⟨.hbm, 221, rfl⟩
abbrev main_c_37 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_c_38 : Ref sig .tc := ⟨.hbm, 226, rfl⟩
abbrev main_v167 : Ref sig .tc := ⟨.hbm, 227, rfl⟩
abbrev main_v168 : Ref sig .tc := ⟨.hbm, 228, rfl⟩
abbrev main_c_39 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_c_40 : Ref sig .tc := ⟨.hbm, 233, rfl⟩
abbrev main_v172 : Ref sig .tc := ⟨.hbm, 234, rfl⟩
abbrev main_v173 : Ref sig .tc := ⟨.hbm, 235, rfl⟩
abbrev main_c_41 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst_42 : Ref sig .tc := ⟨.hbm, 245, rfl⟩
abbrev main_v182 : Ref sig .tc := ⟨.hbm, 246, rfl⟩
abbrev main_v183 : Ref sig .tc := ⟨.hbm, 247, rfl⟩
abbrev main_cst_43 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_44 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_45 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_cst_46 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_47 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_cst_48 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_cst_49 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_cst_50 : Ref sig .tc := ⟨.hbm, 295, rfl⟩
abbrev main_v224 : Ref sig .tc := ⟨.hbm, 296, rfl⟩
abbrev main_cst_51 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_cst_52 : Ref sig .tc := ⟨.hbm, 302, rfl⟩
abbrev main_v229 : Ref sig .tc := ⟨.hbm, 303, rfl⟩
abbrev main_v230 : Ref sig .tc := ⟨.hbm, 304, rfl⟩
abbrev main_cst_53 : Ref sig .tc := ⟨.hbm, 305, rfl⟩
abbrev main_v231 : Ref sig .tc := ⟨.hbm, 306, rfl⟩
abbrev main_v232 : Ref sig .tc := ⟨.hbm, 307, rfl⟩
abbrev main_cst_54 : Ref sig .tc := ⟨.hbm, 308, rfl⟩
abbrev main_v233 : Ref sig .tc := ⟨.hbm, 309, rfl⟩
abbrev main_v234 : Ref sig .tc := ⟨.hbm, 310, rfl⟩
abbrev main_cst_55 : Ref sig .tc := ⟨.hbm, 311, rfl⟩
abbrev main_v235 : Ref sig .tc := ⟨.hbm, 312, rfl⟩
abbrev main_cst_56 : Ref sig .tc := ⟨.hbm, 313, rfl⟩
abbrev main_v236 : Ref sig .tc := ⟨.hbm, 314, rfl⟩
abbrev main_cst_57 : Ref sig .tc := ⟨.hbm, 315, rfl⟩
abbrev main_v237 : Ref sig .tc := ⟨.hbm, 316, rfl⟩

abbrev nD : Nat := 1
abbrev τ : Topo := Topo.v7x

variable {F : FTy → Type} [FloatOps F]
-- ==== Proof.Ideal.Words.lean ====
/- Words of the gather table: a word below 9600 names a row of the transposed map, so the eight-row
   window the kernel aligns it to lies inside the map. -/
module

public import proofs.«01_k».proof.Proof.Gen.KernelIdeal

@[expose] public section

namespace Cert.Proof.KernelIdeal

open Cert.KernelIdeal
open Idealize.ShloMosaic

/-- The aligned window of a word in range starts at the largest multiple of eight not above it. -/
theorem window_toNat (w : BitVec 32) (h : w.toNat < 9600) :
    ((w.sshiftRight 3) <<< 3).toNat = w.toNat / 8 * 8 := by
  have hm : w.msb = false := by rw [BitVec.msb_eq_false_iff_two_mul_lt]; omega
  rw [BitVec.sshiftRight_eq_of_msb_false hm, BitVec.toNat_shiftLeft, BitVec.toNat_ushiftRight,
    Nat.shiftRight_eq_div_pow, Nat.shiftLeft_eq]
  omega

/-- The offsets of the window, read off the word. -/
theorem off_eq (w : BitVec 32) (h : w.toNat < 9600) : k0_off2 w = ![w.toNat / 8 * 8, 0] := by
  have e : k0_off2 w = ![((w.sshiftRight 3) <<< 3).toNat, 0] := by
    simp [k0_off2, Scalar.indexCast, Scalar.shli, Scalar.shrsi, IntOp.shli, IntOp.shrsi]
  rw [e, window_toNat w h]

/-- The side condition assumed of every word read: it holds of a word below 9600. -/
theorem chk_of_lt (w : BitVec 32) (h : w.toNat < 9600) : k0_chk1 w := by
  have e := window_toNat w h
  have e' : (k0_mult2 w).toNat = w.toNat / 8 * 8 := by
    rw [← e]; simp [k0_mult2, Scalar.shli, Scalar.shrsi, IntOp.shli, IntOp.shrsi]
  refine ⟨?_, fun a => ?_⟩
  · rw [e']; exact Nat.dvd_mul_left _ _
  · rw [off_eq w h]
    fin_cases a
    · show w.toNat / 8 * 8 + 8 ≤ 9600
      omega
    · show 0 + 64 ≤ 64
      omega

end Cert.Proof.KernelIdeal
-- ==== Proof.Ideal.Trip.lean ====
/- One trip of the gather loop. A trip reads 32 words of the table, and for each of them the aligned
   eight rows of the transposed map it names; it stores eight rows of each of the four tap buffers. -/
module

public import proofs.«01_k».proof.Proof.Ideal.Words
public import proofs.«01_k».proof.Proof.Gen.KernelIdeal.Skeleton
public import proofs.«01_k».proof.Proof.Gen.KernelIdeal.Loops

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords)
  (arg1 : Memref sig .tc .smem S4x1024 .i32) (harg1 : arg1.IsWhole) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
  (v18 : BitVec 32) (v19 : IVec S8x64 32)

/-- What a trip holds: half of the table, the transposed map, the four tap buffers. -/
abbrev Held (T : BufTy.Contents (Elt F) arg1.view.ty) (X : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄G :=
  iprop((arg1.view.loc (c : Thread nD τ) ↦{fullShare.right} T) ∗ (arg9.view.loc (c : Thread nD τ) ↦[arg9.view.set]{fullShare} X) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- One trip at a symbolic position `k`, with the rows it stores found by the run. -/
def tripRun (T : BufTy.Contents (Elt F) arg1.view.ty) (hT : ∀ x, (arg1.view.read (Elt F) T x).toNat < 9600) (X : BufTy.Contents (Elt F) arg9.view.ty) (k : Fin k0_t1_loop.trips) :
    Σ' (L10 : List (View.Piece (Elt F) S512x64 .f32)) (L11 : List (View.Piece (Elt F) S512x64 .f32)) (L12 : List (View.Piece (Elt F) S512x64 .f32)), { L13 : List (View.Piece (Elt F) S512x64 .f32) // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty),
      Held (F := F) c arg1 arg9 arg10 arg11 arg12 arg13 T X f10 f11 f12 f13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 v18 v19 k PUnit.unit)
          (fun _ => Held (F := F) c arg1 arg9 arg10 arg11 arg12 arg13 T X (arg10.view.writes (Elt F) f10 L10) (arg11.view.writes (Elt F) f11 L11) (arg12.view.writes (Elt F) f12 L12) (arg13.view.writes (Elt F) f13 L13)) } := by
  refine ⟨?_, ?_, ?_, ?_, fun E f10 f11 f12 f13 => ?run⟩
  case run =>
    unfold k0_t1_body
    iintro ⟨HT, HX, H10, H11, H12, H13⟩
    sl_exec (disch := exact chk_of_lt _ (hT _))
    sl_step
    sl_close

end Cert.Proof.KernelIdeal

end
-- ==== Proof.Ideal.Taps.lean ====
/- The taps of the gather. Row `j` of tap buffer `t` is the row of the transposed map that the table's
   word `(t, 512 i + j)` names, picked out of its aligned eight rows by a one-hot sum. What one trip of
   the loop stores is eight consecutive rows of that description, so after all trips every load of a tap
   buffer reads it. -/
module

public import proofs.«01_k».proof.Proof.Ideal.Trip
public import Idealize.ShloMosaic.Lib.PointwiseCore
public import Idealize.ShloMosaic.Lib.Pipeline.Value

@[expose] public section

set_option maxRecDepth 8192

noncomputable section

namespace Cert.Proof.KernelIdeal

open Cert.KernelIdeal Cert.KernelIdeal.Gen
open Idealize.ShloMosaic Idealize.ShloMosaic.TcCoe

variable {F : FTy → Type} [FloatOps F]

section Words

variable (i : grid0.Coords) (arg1 : Memref sig .tc .smem S4x1024 .i32) (arg9 : Memref sig .tc .vmem S9600x64 .f32)
  (v19 : IVec S8x64 32) (T : BufTy.Contents (Elt F) arg1.view.ty) (X : BufTy.Contents (Elt F) arg9.view.ty)

/-- The position of a keypoint of this grid step among all keypoints. -/
def posOf (j : Fin 512) : Fin 1024 :=
  ⟨512 * (i 0).val + j.val, by have h : (i 0).val < 2 := (i 0).isLt; have := j.isLt; omega⟩

/-- The table's word for tap `t` of keypoint `j` of this grid step. -/
def wordAt (t : Fin 4) (j : Fin 512) : Elt F .i32 := arg1.view.read (Elt F) T (ix2 t (posOf i j))

/-- The row picked by a word: the one-hot sum over the aligned eight rows. -/
def rowOf (w : Elt F .i32) (hw : BitVec.toNat w < 9600) : FVec F S1x64 .f32 :=
  k0_pay2 v19 w (arg9.view.readAt (Elt F) (Rect.unit (s := S9600x64) (k0_off2 w) S8x64.size (k0_off2_inb w (chk_of_lt w hw))).toLoadRect X)

variable (hT : ∀ x, BitVec.toNat (arg1.view.read (Elt F) T x) < 9600)

/-- What tap buffer `t` holds once the loop is through. -/
def tap (t : Fin 4) : S512x64.Idx → Elt F .f32 := fun y =>
  rowOf arg9 v19 X (wordAt i arg1 T t (y 0)) (hT _) (ix2 (0 : Fin 1) (y 1 : Fin 64))

theorem trips_eq : k0_t1_loop.trips = 64 := by decide +kernel

/-- Row `8 k + j` of a tap buffer. -/
def rowIx (k : Fin k0_t1_loop.trips) (j : Fin 8) : Fin 512 :=
  ⟨8 * k.val + j.val, by have := lt_of_lt_of_eq k.isLt trips_eq; have := j.isLt; omega⟩

/-- The eight rows trip `k` stores into tap buffer `t`. -/
def slab (t : Fin 4) (k : Fin k0_t1_loop.trips) : View.Piece (Elt F) S512x64 .f32 :=
  ⟨Rect.unit (s := S512x64) (k0_off65 k) S8x64.size (k0_off65_inb k), fun x => tap i arg1 arg9 v19 T X hT t ((Rect.unit (s := S512x64) (k0_off65 k) S8x64.size (k0_off65_inb k)).emb x)⟩

theorem word_pos (off : Fin 2 → ℕ) (h : ∀ a, off a + S1x1.size a ≤ S4x1024.size a) :
    0 < (Rect.unit (s := S4x1024) off S1x1.size h).shape.numel := by
  show 0 < S1x1.numel
  decide

/-- A word loaded through the unit rectangle at `(t, 512 i + j)` is the table's word there. -/
theorem word_eq (t : Fin 4) (j : Fin 512) (off : Fin 2 → ℕ) (h : ∀ a, off a + S1x1.size a ≤ S4x1024.size a)
    (hoff : off = ![t.val, 512 * (i 0).val + j.val]) (h1 : 0 < (Rect.unit (s := S4x1024) off S1x1.size h).shape.numel) :
    arg1.view.readAt (Elt F) (Rect.unit (s := S4x1024) off S1x1.size h).toLoadRect T (Shape.Idx.first h1) = wordAt i arg1 T t j := by
  subst hoff
  refine congrArg (arg1.view.read (Elt F) T) (funext fun a => Fin.ext ?_)
  have hz : ((Shape.Idx.first h1) a).val = 0 := by
    have := ((Shape.Idx.first h1) a).isLt
    fin_cases a <;> exact Nat.lt_one_iff.mp this
  fin_cases a
  · show t.val + 1 * _ = t.val
    erw [hz]; rfl
  · show 512 * (i 0).val + j.val + 1 * _ = 512 * (i 0).val + j.val
    erw [hz]; rfl

include hT in
/-- A word that is the table's is in range. -/
theorem word_lt {w : Elt F .i32} {t : Fin 4} {j : Fin 512} (h : w = wordAt i arg1 T t j) : BitVec.toNat w < 9600 := by
  rw [h]; exact hT _

/-- Eight rows joined are the slab's payload, whichever way their words were read. -/
theorem rows_eq (t : Fin 4) (k : Fin k0_t1_loop.trips) (w0 w1 w2 w3 w4 w5 w6 w7 : Elt F .i32)
    (h0 : w0 = wordAt i arg1 T t (rowIx k 0)) (h1 : w1 = wordAt i arg1 T t (rowIx k 1)) (h2 : w2 = wordAt i arg1 T t (rowIx k 2)) (h3 : w3 = wordAt i arg1 T t (rowIx k 3))
    (h4 : w4 = wordAt i arg1 T t (rowIx k 4)) (h5 : w5 = wordAt i arg1 T t (rowIx k 5)) (h6 : w6 = wordAt i arg1 T t (rowIx k 6)) (h7 : w7 = wordAt i arg1 T t (rowIx k 7)) :
    k0_pay43 (rowOf arg9 v19 X w0 (word_lt i arg1 T hT h0)) (rowOf arg9 v19 X w1 (word_lt i arg1 T hT h1)) (rowOf arg9 v19 X w2 (word_lt i arg1 T hT h2)) (rowOf arg9 v19 X w3 (word_lt i arg1 T hT h3))
      (rowOf arg9 v19 X w4 (word_lt i arg1 T hT h4)) (rowOf arg9 v19 X w5 (word_lt i arg1 T hT h5)) (rowOf arg9 v19 X w6 (word_lt i arg1 T hT h6)) (rowOf arg9 v19 X w7 (word_lt i arg1 T hT h7))
    = fun x => tap i arg1 arg9 v19 T X hT t ((Rect.unit (s := S512x64) (k0_off65 k) S8x64.size (k0_off65_inb k)).emb x) := by
  subst h0; subst h1; subst h2; subst h3; subst h4; subst h5; subst h6; subst h7
  funext x
  have e0 : shapeCast S8x64 (concatenate S8x64 0 (List.ofFn fun j : Fin 8 => (⟨S1x64, rowOf arg9 v19 X (wordAt i arg1 T t (rowIx k j)) (hT _)⟩ : (s : Shape) × (s.Idx → Elt F .f32))) concatenates_S1x64_S1x64_S1x64_S1x64_S1x64_S1x64_S1x64_S1x64_S8x64_d0) shapeCasts_S8x64_S8x64 x
      = rowOf arg9 v19 X (wordAt i arg1 T t (rowIx k (x 0))) (hT _) (ix2 (0 : Fin 1) (x 1 : Fin 64)) := by
    rw [shapeCast_self]
    refine concatenate_ofFn_unit_apply (t := S8x64) (s₁ := S1x64) 0 (fun j : Fin 8 => rowOf arg9 v19 X (wordAt i arg1 T t (rowIx k j)) (hT _)) _ rfl rfl x (x 0) rfl _ ?_
    intro b hb
    fin_cases b
    · exact absurd rfl hb
    · rfl
  refine Eq.trans e0 ?_
  have er : (Rect.unit (s := S512x64) (k0_off65 k) S8x64.size (k0_off65_inb k)).emb x = ix2 (rowIx k (x 0)) (x 1 : Fin 64) := by
    funext a
    apply Fin.ext
    show k0_off65 k a + 1 * (x a).val = _
    rw [k0_off65_eq]
    fin_cases a
    · show 8 * k.val + 1 * (x 0).val = 8 * k.val + (x 0).val
      omega
    · show 0 + 1 * (x 1).val = (x 1).val
      omega
  rw [er]
  rfl

/-- The pieces of the trips before `k`, last first. -/
def slabs (t : Fin 4) : ℕ → List (View.Piece (Elt F) S512x64 .f32)
  | 0 => []
  | k + 1 => if h : k < k0_t1_loop.trips then slab i arg1 arg9 v19 T X hT t ⟨k, h⟩ :: slabs t k else slabs t k

theorem slabs_succ (t : Fin 4) (k : Fin k0_t1_loop.trips) :
    slabs i arg1 arg9 v19 T X hT t (k.val + 1) = slab i arg1 arg9 v19 T X hT t k :: slabs i arg1 arg9 v19 T X hT t k.val :=
  dif_pos k.isLt

theorem slabs_sound (t : Fin 4) (n : ℕ) : ∀ p ∈ slabs i arg1 arg9 v19 T X hT t n, ∀ x : p.1.shape.Idx,
    p.2 x = tap i arg1 arg9 v19 T X hT t (p.1.emb x) := by
  induction n with
  | zero => intro p hp; cases hp
  | succ n ih =>
    intro p hp
    by_cases h : n < k0_t1_loop.trips
    · rw [slabs, dif_pos h] at hp
      rcases List.mem_cons.mp hp with rfl | hp
      · intro x; rfl
      · exact ih p hp
    · rw [slabs, dif_neg h] at hp; exact ih p hp

theorem slabs_cover (t : Fin 4) (n : ℕ) (hn : n ≤ k0_t1_loop.trips) (y : S512x64.Idx) (hy : (y 0).val < 8 * n) :
    ∃ p ∈ slabs i arg1 arg9 v19 T X hT t n, y ∈ p.1.set := by
  induction n with
  | zero => omega
  | succ n ih =>
    rw [slabs, dif_pos (by omega)]
    by_cases h : (y 0).val < 8 * n
    · obtain ⟨p, hp, hs⟩ := ih (by omega) h
      exact ⟨p, List.mem_cons_of_mem _ hp, hs⟩
    · refine ⟨_, List.mem_cons_self, ?_⟩
      show y ∈ (Rect.unit (s := S512x64) (k0_off65 ⟨n, by omega⟩) S8x64.size (k0_off65_inb ⟨n, by omega⟩)).set
      rw [Rect.mem_set_unit]
      intro a
      rw [k0_off65_eq]
      have h1 : (y 1).val < 64 := (y 1).isLt
      fin_cases a
      · show 8 * n ≤ (y 0).val ∧ (y 0).val < 8 * n + 8
        omega
      · show 0 ≤ (y 1).val ∧ (y 1).val < 0 + 64
        omega

/-- After all trips a load of tap buffer `t` reads the taps. -/
theorem load_slabs (t : Fin 4) (arg : Memref sig .tc .vmem S512x64 .f32) (f : BufTy.Contents (Elt F) arg.view.ty) (B : LoadRect S512x64) :
    arg.view.readAt (Elt F) B (arg.view.writes (Elt F) f (slabs i arg1 arg9 v19 T X hT t (Scf.trips k0_t1_loop.lb k0_t1_loop.ub k0_t1_loop.st)))
      = fun x => tap i arg1 arg9 v19 T X hT t (B.idx x) := by
  funext x
  refine View.read_writes_apply_of_pieces _ _ (tap i arg1 arg9 v19 T X hT t) _ (slabs_sound i arg1 arg9 v19 T X hT t _) _ (slabs_cover i arg1 arg9 v19 T X hT t _ le_rfl _ ?_)
  have : (B.idx x 0).val < 512 := (B.idx x 0).isLt
  show _ < 8 * k0_t1_loop.trips
  rw [trips_eq]; omega

end Words

end Cert.Proof.KernelIdeal

end
-- ==== Proof.Ideal.Loop.lean ====
/- The gather loop by its invariant: before trip `k` each tap buffer holds the slabs of the trips before
   `k` written over what it held at the start. -/
module

public import proofs.«01_k».proof.Proof.Ideal.Taps

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The closed form of a table position, by tap, trip and row. -/
theorem off_row (i : grid0.Coords) (k : Fin k0_t1_loop.trips) (j : Fin 8) (t : ℕ) :
    (![t, 512 * (i 0).val + 8 * k.val + j.val] : Fin 2 → ℕ) = ![t, 512 * (i 0).val + (rowIx k j).val] := by
  simp only [rowIx, Nat.add_assoc]

variable (𝒱 : Variants) (c : Dev nD) (bd : Option 𝒱.V) (i : grid0.Coords)
  (arg1 : Memref sig .tc .smem S4x1024 .i32) (harg1 : arg1.IsWhole) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
  (v18 : BitVec 32) (v19 : IVec S8x64 32)
  (T : BufTy.Contents (Elt F) arg1.view.ty) (hT : ∀ x, BitVec.toNat (arg1.view.read (Elt F) T x) < 9600) (X : BufTy.Contents (Elt F) arg9.view.ty)

set_option maxHeartbeats 4000000 in
/-- What a trip stores into the first tap buffer. -/
theorem trip_list0 (k : Fin k0_t1_loop.trips) :
    (tripRun (F := F) 𝒱 c bd i arg1 harg1 arg2 harg2 arg3 harg3 arg4 harg4 arg5 harg5 arg6 harg6 arg7 harg7 arg8 harg8 arg9 harg9 arg10 harg10 arg11 harg11 arg12 harg12 arg13 harg13 v18 v19 T hT X k).1 = [slab i arg1 arg9 v19 T X hT 0 k] :=
  congrArg (fun p => [(⟨Rect.unit (s := S512x64) (k0_off65 k) S8x64.size (k0_off65_inb k), p⟩ : View.Piece (Elt F) S512x64 .f32)])
    (rows_eq i arg1 arg9 v19 T X hT 0 k _ _ _ _ _ _ _ _
      (word_eq i arg1 T 0 (rowIx k 0) (k0_off1 i k) (k0_off1_inb i k) ((k0_off1_eq i k).trans (off_row i k 0 0)) (word_pos _ _))
      (word_eq i arg1 T 0 (rowIx k 1) (k0_off9 i k) (k0_off9_inb i k) ((k0_off9_eq i k).trans (off_row i k 1 0)) (word_pos _ _))
      (word_eq i arg1 T 0 (rowIx k 2) (k0_off17 i k) (k0_off17_inb i k) ((k0_off17_eq i k).trans (off_row i k 2 0)) (word_pos _ _))
      (word_eq i arg1 T 0 (rowIx k 3) (k0_off25 i k) (k0_off25_inb i k) ((k0_off25_eq i k).trans (off_row i k 3 0)) (word_pos _ _))
      (word_eq i arg1 T 0 (rowIx k 4) (k0_off33 i k) (k0_off33_inb i k) ((k0_off33_eq i k).trans (off_row i k 4 0)) (word_pos _ _))
      (word_eq i arg1 T 0 (rowIx k 5) (k0_off41 i k) (k0_off41_inb i k) ((k0_off41_eq i k).trans (off_row i k 5 0)) (word_pos _ _))
      (word_eq i arg1 T 0 (rowIx k 6) (k0_off49 i k) (k0_off49_inb i k) ((k0_off49_eq i k).trans (off_row i k 6 0)) (word_pos _ _))
      (word_eq i arg1 T 0 (rowIx k 7) (k0_off57 i k) (k0_off57_inb i k) ((k0_off57_eq i k).trans (off_row i k 7 0)) (word_pos _ _)))

set_option maxHeartbeats 4000000 in
/-- What a trip stores into the second tap buffer. -/
theorem trip_list1 (k : Fin k0_t1_loop.trips) :
    (tripRun (F := F) 𝒱 c bd i arg1 harg1 arg2 harg2 arg3 harg3 arg4 harg4 arg5 harg5 arg6 harg6 arg7 harg7 arg8 harg8 arg9 harg9 arg10 harg10 arg11 harg11 arg12 harg12 arg13 harg13 v18 v19 T hT X k).2.1 = [slab i arg1 arg9 v19 T X hT 1 k] :=
  congrArg (fun p => [(⟨Rect.unit (s := S512x64) (k0_off65 k) S8x64.size (k0_off65_inb k), p⟩ : View.Piece (Elt F) S512x64 .f32)])
    (rows_eq i arg1 arg9 v19 T X hT 1 k _ _ _ _ _ _ _ _
      (word_eq i arg1 T 1 (rowIx k 0) (k0_off3 i k) (k0_off3_inb i k) ((k0_off3_eq i k).trans (off_row i k 0 1)) (word_pos _ _))
      (word_eq i arg1 T 1 (rowIx k 1) (k0_off11 i k) (k0_off11_inb i k) ((k0_off11_eq i k).trans (off_row i k 1 1)) (word_pos _ _))
      (word_eq i arg1 T 1 (rowIx k 2) (k0_off19 i k) (k0_off19_inb i k) ((k0_off19_eq i k).trans (off_row i k 2 1)) (word_pos _ _))
      (word_eq i arg1 T 1 (rowIx k 3) (k0_off27 i k) (k0_off27_inb i k) ((k0_off27_eq i k).trans (off_row i k 3 1)) (word_pos _ _))
      (word_eq i arg1 T 1 (rowIx k 4) (k0_off35 i k) (k0_off35_inb i k) ((k0_off35_eq i k).trans (off_row i k 4 1)) (word_pos _ _))
      (word_eq i arg1 T 1 (rowIx k 5) (k0_off43 i k) (k0_off43_inb i k) ((k0_off43_eq i k).trans (off_row i k 5 1)) (word_pos _ _))
      (word_eq i arg1 T 1 (rowIx k 6) (k0_off51 i k) (k0_off51_inb i k) ((k0_off51_eq i k).trans (off_row i k 6 1)) (word_pos _ _))
      (word_eq i arg1 T 1 (rowIx k 7) (k0_off59 i k) (k0_off59_inb i k) ((k0_off59_eq i k).trans (off_row i k 7 1)) (word_pos _ _)))

set_option maxHeartbeats 4000000 in
/-- What a trip stores into the third tap buffer. -/
theorem trip_list2 (k : Fin k0_t1_loop.trips) :
    (tripRun (F := F) 𝒱 c bd i arg1 harg1 arg2 harg2 arg3 harg3 arg4 harg4 arg5 harg5 arg6 harg6 arg7 harg7 arg8 harg8 arg9 harg9 arg10 harg10 arg11 harg11 arg12 harg12 arg13 harg13 v18 v19 T hT X k).2.2.1 = [slab i arg1 arg9 v19 T X hT 2 k] :=
  congrArg (fun p => [(⟨Rect.unit (s := S512x64) (k0_off65 k) S8x64.size (k0_off65_inb k), p⟩ : View.Piece (Elt F) S512x64 .f32)])
    (rows_eq i arg1 arg9 v19 T X hT 2 k _ _ _ _ _ _ _ _
      (word_eq i arg1 T 2 (rowIx k 0) (k0_off5 i k) (k0_off5_inb i k) ((k0_off5_eq i k).trans (off_row i k 0 2)) (word_pos _ _))
      (word_eq i arg1 T 2 (rowIx k 1) (k0_off13 i k) (k0_off13_inb i k) ((k0_off13_eq i k).trans (off_row i k 1 2)) (word_pos _ _))
      (word_eq i arg1 T 2 (rowIx k 2) (k0_off21 i k) (k0_off21_inb i k) ((k0_off21_eq i k).trans (off_row i k 2 2)) (word_pos _ _))
      (word_eq i arg1 T 2 (rowIx k 3) (k0_off29 i k) (k0_off29_inb i k) ((k0_off29_eq i k).trans (off_row i k 3 2)) (word_pos _ _))
      (word_eq i arg1 T 2 (rowIx k 4) (k0_off37 i k) (k0_off37_inb i k) ((k0_off37_eq i k).trans (off_row i k 4 2)) (word_pos _ _))
      (word_eq i arg1 T 2 (rowIx k 5) (k0_off45 i k) (k0_off45_inb i k) ((k0_off45_eq i k).trans (off_row i k 5 2)) (word_pos _ _))
      (word_eq i arg1 T 2 (rowIx k 6) (k0_off53 i k) (k0_off53_inb i k) ((k0_off53_eq i k).trans (off_row i k 6 2)) (word_pos _ _))
      (word_eq i arg1 T 2 (rowIx k 7) (k0_off61 i k) (k0_off61_inb i k) ((k0_off61_eq i k).trans (off_row i k 7 2)) (word_pos _ _)))

set_option maxHeartbeats 4000000 in
/-- What a trip stores into the fourth tap buffer. -/
theorem trip_list3 (k : Fin k0_t1_loop.trips) :
    (tripRun (F := F) 𝒱 c bd i arg1 harg1 arg2 harg2 arg3 harg3 arg4 harg4 arg5 harg5 arg6 harg6 arg7 harg7 arg8 harg8 arg9 harg9 arg10 harg10 arg11 harg11 arg12 harg12 arg13 harg13 v18 v19 T hT X k).2.2.2.1 = [slab i arg1 arg9 v19 T X hT 3 k] :=
  congrArg (fun p => [(⟨Rect.unit (s := S512x64) (k0_off65 k) S8x64.size (k0_off65_inb k), p⟩ : View.Piece (Elt F) S512x64 .f32)])
    (rows_eq i arg1 arg9 v19 T X hT 3 k _ _ _ _ _ _ _ _
      (word_eq i arg1 T 3 (rowIx k 0) (k0_off7 i k) (k0_off7_inb i k) ((k0_off7_eq i k).trans (off_row i k 0 3)) (word_pos _ _))
      (word_eq i arg1 T 3 (rowIx k 1) (k0_off15 i k) (k0_off15_inb i k) ((k0_off15_eq i k).trans (off_row i k 1 3)) (word_pos _ _))
      (word_eq i arg1 T 3 (rowIx k 2) (k0_off23 i k) (k0_off23_inb i k) ((k0_off23_eq i k).trans (off_row i k 2 3)) (word_pos _ _))
      (word_eq i arg1 T 3 (rowIx k 3) (k0_off31 i k) (k0_off31_inb i k) ((k0_off31_eq i k).trans (off_row i k 3 3)) (word_pos _ _))
      (word_eq i arg1 T 3 (rowIx k 4) (k0_off39 i k) (k0_off39_inb i k) ((k0_off39_eq i k).trans (off_row i k 4 3)) (word_pos _ _))
      (word_eq i arg1 T 3 (rowIx k 5) (k0_off47 i k) (k0_off47_inb i k) ((k0_off47_eq i k).trans (off_row i k 5 3)) (word_pos _ _))
      (word_eq i arg1 T 3 (rowIx k 6) (k0_off55 i k) (k0_off55_inb i k) ((k0_off55_eq i k).trans (off_row i k 6 3)) (word_pos _ _))
      (word_eq i arg1 T 3 (rowIx k 7) (k0_off63 i k) (k0_off63_inb i k) ((k0_off63_eq i k).trans (off_row i k 7 3)) (word_pos _ _)))

/-- The invariant before trip `k`: the table and the transposed map as they were, each tap buffer with
    the slabs of the trips before written over its contents at the start. -/
abbrev gatherInv (G10 : BufTy.Contents (Elt F) arg10.view.ty) (G11 : BufTy.Contents (Elt F) arg11.view.ty) (G12 : BufTy.Contents (Elt F) arg12.view.ty) (G13 : BufTy.Contents (Elt F) arg13.view.ty) (k : ℕ) (_ : Unit) : sProp 𝕄G :=
  iprop((arg1.view.loc (c : Thread nD τ) ↦{fullShare.right} T) ∗ (arg9.view.loc (c : Thread nD τ) ↦[arg9.view.set]{fullShare} X)
    ∗ (∃ f, (arg10.view.loc (c : Thread nD τ) ↦[arg10.view.set]{fullShare} f) ∗ ⌜f = arg10.view.writes (Elt F) G10 (slabs i arg1 arg9 v19 T X hT 0 k)⌝)
    ∗ (∃ f, (arg11.view.loc (c : Thread nD τ) ↦[arg11.view.set]{fullShare} f) ∗ ⌜f = arg11.view.writes (Elt F) G11 (slabs i arg1 arg9 v19 T X hT 1 k)⌝)
    ∗ (∃ f, (arg12.view.loc (c : Thread nD τ) ↦[arg12.view.set]{fullShare} f) ∗ ⌜f = arg12.view.writes (Elt F) G12 (slabs i arg1 arg9 v19 T X hT 2 k)⌝)
    ∗ (∃ f, (arg13.view.loc (c : Thread nD τ) ↦[arg13.view.set]{fullShare} f) ∗ ⌜f = arg13.view.writes (Elt F) G13 (slabs i arg1 arg9 v19 T X hT 3 k)⌝))

set_option warn.classDefReducibility false in
/-- One trip keeps the invariant. -/
@[sl_loop] def gatherLoop (E : Set ℕ) (G10 : BufTy.Contents (Elt F) arg10.view.ty) (G11 : BufTy.Contents (Elt F) arg11.view.ty) (G12 : BufTy.Contents (Elt F) arg12.view.ty) (G13 : BufTy.Contents (Elt F) arg13.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v18 v19 where
  inv := gatherInv (F := F) c i arg1 arg9 arg10 arg11 arg12 arg13 v19 T hT X G10 G11 G12 G13
  step k acc := by
    iintro ⟨HT, HX, ⟨%f10, H10, %h10⟩, ⟨%f11, H11, %h11⟩, ⟨%f12, H12, %h12⟩, ⟨%f13, H13, %h13⟩⟩
    iapply (wp_wand_r Idealize.ShloMosaic.frame (wpE (defs₀ (F := F)) 𝒱 (c : Thread nD τ) bd) E)
    isplitl [HT HX H10 H11 H12 H13]
    · iapply ((tripRun (F := F) 𝒱 c bd i arg1 harg1 arg2 harg2 arg3 harg3 arg4 harg4 arg5 harg5 arg6 harg6 arg7 harg7 arg8 harg8 arg9 harg9 arg10 harg10 arg11 harg11 arg12 harg12 arg13 harg13 v18 v19 T hT X k).2.2.2.2 E f10 f11 f12 f13)
      isplitl [HT]; · iexact HT
      isplitl [HX]; · iexact HX
      isplitl [H10]; · iexact H10
      isplitl [H11]; · iexact H11
      isplitl [H12]; · iexact H12
      iexact H13
    · iintro %_ ⟨HT, HX, H10, H11, H12, H13⟩
      isplitl [HT]; · iexact HT
      isplitl [HX]; · iexact HX
      simp only [slabs_succ]
      isplitl [H10]
      · iexists _; isplitl [H10]; · iexact H10
        ipureintro; rw [h10, trip_list0, ← View.writes_append]; rfl
      isplitl [H11]
      · iexists _; isplitl [H11]; · iexact H11
        ipureintro; rw [h11, trip_list1, ← View.writes_append]; rfl
      isplitl [H12]
      · iexists _; isplitl [H12]; · iexact H12
        ipureintro; rw [h12, trip_list2, ← View.writes_append]; rfl
      iexists _; isplitl [H13]; · iexact H13
      ipureintro; rw [h13, trip_list3, ← View.writes_append]; rfl

end Cert.Proof.KernelIdeal

end
-- ==== Proof.Ideal.Setup.lean ====
/- The launch around the body: what the host computes before the region, what the region finds in its
   arrays and its table, the blocks the body is handed, and the frame read off a run of the region. -/
module

public import proofs.«01_k».proof.Proof.Ideal.Loop
public import proofs.«01_k».proof.Proof.Gen.KernelIdeal.Launch
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: after the host's operations before it. -/
abbrev V0 (c : Dev nD) : Valuation τ sig (Elt F) := StableHlo.after (List.flatten [hostOps0]) (fun b => m (c, b))
/-- The same, at a reference of the core. -/
abbrev V (c : Dev nD) (b : Ref sig .tc) : Buf (Elt F) ((c : Thread nD τ).loc b) := V0 m c (Proc.devRef .tc b)

/-- The host's operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host's first operations, the region, and the host's last ones. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The host's last operations touch arrays and host buffers only. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- None of them writes an array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No operation before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The table's words when the region is entered. -/
def tbl : pre0.Contents (Elt F) := fun j => V m (0 : Dev nD) (pre0.ref j)
/-- They are the same on every device, there being one. -/
theorem V_pre (c : Dev nD) (j : Fin 1) : V m c (pre0.ref j) = tbl m j := by
  obtain rfl : c = 0 := Subsingleton.elim _ _; rfl
/-- The side condition on the table that the pipeline asks for; no index map reads the table here. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S4x1024 .i32 := Memref.whole main_call0_v54
abbrev htbM0_0 : tbM0_0.IsWhole := Memref.isWhole_whole _

/-- The table's buffer, and half of it held. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables that the region lends the body. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- Nor does one after it. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The block of a window at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A run of the region leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      ((h c).1 4).trans (((dats 0 c).arrAt_in 4 rfl _).trans ((hA c 4).trans (V_main_arg3 m c))),
      (((h c).2 main_arg4 (by decide : main_arg4 ∈ Pipeline.restRefs sig spec0)).trans (W_main_arg4 m hO dats c))⟩) h

/-- The first buffer of each output window. -/
abbrev VO0_5 : View sig .tc .vmem S512x64 .f32 := (Memref.whole cc0_stg5_0 : Memref sig .tc .vmem S512x64 .f32).view
abbrev VO0_6 : View sig .tc .vmem S1x8x128 .f32 := (Memref.whole cc0_stg6_0 : Memref sig .tc .vmem S1x8x128 .f32).view
/-- The buffers a window is on at a point. -/
abbrev ms0_0 (hO : Ok m) (t : Fin (cfgM m hO).N) : Memref sig .tc .vmem S512x4 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2x64x4800 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2x64x4800 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2x4800 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2x3x3 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8x128 .f32 := spec0_6.stage ((cfgM m hO).slots t 6)
abbrev hs0_6 (hO : Ok m) (t : Fin (cfgM m hO).N) : (ms0_6 m hO t).IsWhole := hstage0_6 (((cfgM m hO).slots t 6).cast nbuf0_6)
/-- The scratch buffers. -/
abbrev scM0_0 : Memref sig .tc .vmem S9600x64 .f32 := Memref.whole cc0_scratch0
abbrev scM0_1 : Memref sig .tc .vmem S512x64 .f32 := Memref.whole cc0_scratch1
abbrev scM0_2 : Memref sig .tc .vmem S512x64 .f32 := Memref.whole cc0_scratch2
abbrev scM0_3 : Memref sig .tc .vmem S512x64 .f32 := Memref.whole cc0_scratch3
abbrev scM0_4 : Memref sig .tc .vmem S512x64 .f32 := Memref.whole cc0_scratch4

/-- What the region keeps between points: the scratch buffers at some contents, and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The body at a point, as the pipeline calls it. -/
abbrev bodyAt0 (a : (pcfg0 (F := F)).Adm) (t : Fin (cfg0 a).N) : Prog (TpuEff nD τ sig (Elt F) Λ₀ .tc) PUnit :=
  cc0__triplet_kernel (grid0.coords t) (Memref.whole main_call0_v54) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.Proof.KernelIdeal

end
-- ==== Proof.Ideal.Run.lean ====
/- One point of the grid, run from its first load to its last store: what it leaves in the two output
   buffers, for any contents of its inputs and any table whose words are in range. -/
module

public import proofs.«01_k».proof.Proof.Ideal.Setup

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 4000000 in
/-- The body run, with the pieces it stores into the two outputs found by the run. -/
def kernelRun (c : Dev nD) (i : grid0.Coords) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
    (x0 : Vec F S512x4 .f32) (x1 : Vec F S2x64x4800 .f32) (x2 : Vec F S2x64x4800 .f32) (x3 : Vec F S2x4800 .f32) (x4 : Vec F S2x3x3 .f32) (xt0 : TbBuf0 (F := F) c tbM0_0) (hT : ∀ x, BitVec.toNat (tbM0_0.view.read (Elt F) xt0 x) < 9600) :
    Σ' (L5 : List (View.Piece (Elt F) S512x64 .f32)), { L6 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0__triplet_kernel i tbM0_0 htbM0_0 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__triplet_kernel_eq_skeleton]; unfold cc0__triplet_kernel_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4
    have hrd0 : ∀ (v19 : IVec S8x64 32) (X : BufTy.Contents (Elt F) arg9.view.ty) (f : BufTy.Contents (Elt F) arg10.view.ty) (B : LoadRect S512x64),
        arg10.view.readAt (Elt F) B (arg10.view.writes (Elt F) f (slabs i tbM0_0 arg9 v19 xt0 X hT 0 (Scf.trips k0_t1_loop.lb k0_t1_loop.ub k0_t1_loop.st)))
          = fun x => tap i tbM0_0 arg9 v19 xt0 X hT 0 (B.idx x) := fun v19 X f B => load_slabs i tbM0_0 arg9 v19 xt0 X hT 0 arg10 f B
    have hrd1 : ∀ (v19 : IVec S8x64 32) (X : BufTy.Contents (Elt F) arg9.view.ty) (f : BufTy.Contents (Elt F) arg11.view.ty) (B : LoadRect S512x64),
        arg11.view.readAt (Elt F) B (arg11.view.writes (Elt F) f (slabs i tbM0_0 arg9 v19 xt0 X hT 1 (Scf.trips k0_t1_loop.lb k0_t1_loop.ub k0_t1_loop.st)))
          = fun x => tap i tbM0_0 arg9 v19 xt0 X hT 1 (B.idx x) := fun v19 X f B => load_slabs i tbM0_0 arg9 v19 xt0 X hT 1 arg11 f B
    have hrd2 : ∀ (v19 : IVec S8x64 32) (X : BufTy.Contents (Elt F) arg9.view.ty) (f : BufTy.Contents (Elt F) arg12.view.ty) (B : LoadRect S512x64),
        arg12.view.readAt (Elt F) B (arg12.view.writes (Elt F) f (slabs i tbM0_0 arg9 v19 xt0 X hT 2 (Scf.trips k0_t1_loop.lb k0_t1_loop.ub k0_t1_loop.st)))
          = fun x => tap i tbM0_0 arg9 v19 xt0 X hT 2 (B.idx x) := fun v19 X f B => load_slabs i tbM0_0 arg9 v19 xt0 X hT 2 arg12 f B
    have hrd3 : ∀ (v19 : IVec S8x64 32) (X : BufTy.Contents (Elt F) arg9.view.ty) (f : BufTy.Contents (Elt F) arg13.view.ty) (B : LoadRect S512x64),
        arg13.view.readAt (Elt F) B (arg13.view.writes (Elt F) f (slabs i tbM0_0 arg9 v19 xt0 X hT 3 (Scf.trips k0_t1_loop.lb k0_t1_loop.ub k0_t1_loop.st)))
          = fun x => tap i tbM0_0 arg9 v19 xt0 X hT 3 (B.idx x) := fun v19 X f B => load_slabs i tbM0_0 arg9 v19 xt0 X hT 3 arg13 f B
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.Proof.KernelIdeal

end
-- ==== Proof.Ideal.Frame.lean ====
/- The frame of the whole program: the body's run at every point of the grid, and the launch around it,
   for any table whose words are in range. -/
module

public import proofs.«01_k».proof.Proof.Ideal.Run
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The store into the descriptor output covers its block. -/
theorem cover0_5 (c : Dev nD) (i : grid0.Coords) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
    (x0 : Vec F S512x4 .f32) (x1 : Vec F S2x64x4800 .f32) (x2 : Vec F S2x64x4800 .f32) (x3 : Vec F S2x4800 .f32) (x4 : Vec F S2x3x3 .f32) (xt0 : TbBuf0 (F := F) c tbM0_0) (hT : ∀ x, BitVec.toNat (tbM0_0.view.read (Elt F) xt0 x) < 9600) (y : S512x64.Idx) :
    ∃ pc ∈ (kernelRun c i arg2 harg2 arg3 harg3 arg4 harg4 arg5 harg5 arg6 harg6 arg7 harg7 arg8 harg8 arg9 harg9 arg10 harg10 arg11 harg11 arg12 harg12 arg13 harg13 x0 x1 x2 x3 x4 xt0 hT).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 x0 x1 x2 x3 x4 xt0 hT).1 S512x64.size (by sl_kernel_rfl) y

/-- What the descriptor output holds after a point. -/
def out0_5 (c : Dev nD) (i : grid0.Coords) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
    (x0 : Vec F S512x4 .f32) (x1 : Vec F S2x64x4800 .f32) (x2 : Vec F S2x64x4800 .f32) (x3 : Vec F S2x4800 .f32) (x4 : Vec F S2x3x3 .f32) (xt0 : TbBuf0 (F := F) c tbM0_0) (hT : ∀ x, BitVec.toNat (tbM0_0.view.read (Elt F) xt0 x) < 9600) : Vec F S512x64 .f32 :=
  VO0_5.read (Elt F) (VO0_5.writes (Elt F) VO0_5.junk (kernelRun c i arg2 harg2 arg3 harg3 arg4 harg4 arg5 harg5 arg6 harg6 arg7 harg7 arg8 harg8 arg9 harg9 arg10 harg10 arg11 harg11 arg12 harg12 arg13 harg13 x0 x1 x2 x3 x4 xt0 hT).1)

/-- The store into the loss output covers its block. -/
theorem cover0_6 (c : Dev nD) (i : grid0.Coords) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
    (x0 : Vec F S512x4 .f32) (x1 : Vec F S2x64x4800 .f32) (x2 : Vec F S2x64x4800 .f32) (x3 : Vec F S2x4800 .f32) (x4 : Vec F S2x3x3 .f32) (xt0 : TbBuf0 (F := F) c tbM0_0) (hT : ∀ x, BitVec.toNat (tbM0_0.view.read (Elt F) xt0 x) < 9600) (y : S1x8x128.Idx) :
    ∃ pc ∈ (kernelRun c i arg2 harg2 arg3 harg3 arg4 harg4 arg5 harg5 arg6 harg6 arg7 harg7 arg8 harg8 arg9 harg9 arg10 harg10 arg11 harg11 arg12 harg12 arg13 harg13 x0 x1 x2 x3 x4 xt0 hT).2.1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 x0 x1 x2 x3 x4 xt0 hT).2.1 S1x8x128.size (by sl_kernel_rfl) y

/-- What the loss output holds after a point. -/
def out0_6 (c : Dev nD) (i : grid0.Coords) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
    (x0 : Vec F S512x4 .f32) (x1 : Vec F S2x64x4800 .f32) (x2 : Vec F S2x64x4800 .f32) (x3 : Vec F S2x4800 .f32) (x4 : Vec F S2x3x3 .f32) (xt0 : TbBuf0 (F := F) c tbM0_0) (hT : ∀ x, BitVec.toNat (tbM0_0.view.read (Elt F) xt0 x) < 9600) : Vec F S1x8x128 .f32 :=
  VO0_6.read (Elt F) (VO0_6.writes (Elt F) VO0_6.junk (kernelRun c i arg2 harg2 arg3 harg3 arg4 harg4 arg5 harg5 arg6 harg6 arg7 harg7 arg8 harg8 arg9 harg9 arg10 harg10 arg11 harg11 arg12 harg12 arg13 harg13 x0 x1 x2 x3 x4 xt0 hT).2.1)

/-- Every word of the table names a row of the transposed map. -/
abbrev InMap : Prop := ∀ x, BitVec.toNat (tbM0_0.view.read (Elt F) (tbl m 0) x) < 9600

/-- Both outputs after the body at point `t`, whose inputs are the blocks there. -/
def outsAt0 (hO : Ok m) (hT : InMap m) (c : Dev nD) (t : Fin (cfgM m hO).N) : Vec F S512x64 .f32 × Vec F S1x8x128 .f32 :=
  (out0_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (tbl m 0) hT, out0_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (tbl m 0) hT)

/-- What is claimed of the pipeline: every input's buffer keeps its block, every output's holds `outsAt0`. -/
def dats (hO : Ok m) (hT : InMap m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO hT c t).1
    | ⟨6, _⟩ => (outsAt0 m hO hT c t).2
  Φ _ := iprop(Pipeline.ΦA spec0 c ∗ Pipeline.ΦT pre0 (tbl m) c)
  q _ := fullShare
  owed _ := 0

/-- The arrays are as the host left them. -/
theorem A_eq (hO : Ok m) (hT : InMap m) (c : Dev nD) (w : Fin (cfgM m hO).W) : (dats m hO hT 0 c).A w = V m c (Pipeline.arrRef spec0 w) := by
  dsimp only [dats]

/-- The buffers after a point, window by window. -/
theorem after0_0 (hO : Ok m) (hT : InMap m) (c : Dev nD) (t : Fin (cfgM m hO).N) : (dats m hO hT 0 c).after 0 t = iblk m hO c 0 t := by dsimp only [dats]; try rfl
theorem after0_1 (hO : Ok m) (hT : InMap m) (c : Dev nD) (t : Fin (cfgM m hO).N) : (dats m hO hT 0 c).after 1 t = iblk m hO c 1 t := by dsimp only [dats]; try rfl
theorem after0_2 (hO : Ok m) (hT : InMap m) (c : Dev nD) (t : Fin (cfgM m hO).N) : (dats m hO hT 0 c).after 2 t = iblk m hO c 2 t := by dsimp only [dats]; try rfl
theorem after0_3 (hO : Ok m) (hT : InMap m) (c : Dev nD) (t : Fin (cfgM m hO).N) : (dats m hO hT 0 c).after 3 t = iblk m hO c 3 t := by dsimp only [dats]; try rfl
theorem after0_4 (hO : Ok m) (hT : InMap m) (c : Dev nD) (t : Fin (cfgM m hO).N) : (dats m hO hT 0 c).after 4 t = iblk m hO c 4 t := by dsimp only [dats]; try rfl
theorem after0_5 (hO : Ok m) (hT : InMap m) (c : Dev nD) (t : Fin (cfgM m hO).N) : (dats m hO hT 0 c).after 5 t = (outsAt0 m hO hT c t).1 := by dsimp only [dats]; try rfl
theorem after0_6 (hO : Ok m) (hT : InMap m) (c : Dev nD) (t : Fin (cfgM m hO).N) : (dats m hO hT 0 c).after 6 t = (outsAt0 m hO hT c t).2 := by dsimp only [dats]; try rfl

/-- The inputs' buffers before a point. -/
theorem before0_0 (hO : Ok m) (hT : InMap m) (c : Dev nD) (t : Fin (cfgM m hO).N) (d) : (dats m hO hT 0 c).before 0 t d = iblk m hO c 0 t :=
  before0_0_of m hO (dats m hO hT 0 c) (A_eq m hO hT c 0) (after0_0 m hO hT c) t d
theorem before0_1 (hO : Ok m) (hT : InMap m) (c : Dev nD) (t : Fin (cfgM m hO).N) (d) : (dats m hO hT 0 c).before 1 t d = iblk m hO c 1 t :=
  before0_1_of m hO (dats m hO hT 0 c) (A_eq m hO hT c 1) (after0_1 m hO hT c) t d
theorem before0_2 (hO : Ok m) (hT : InMap m) (c : Dev nD) (t : Fin (cfgM m hO).N) (d) : (dats m hO hT 0 c).before 2 t d = iblk m hO c 2 t :=
  before0_2_of m hO (dats m hO hT 0 c) (A_eq m hO hT c 2) (after0_2 m hO hT c) t d
theorem before0_3 (hO : Ok m) (hT : InMap m) (c : Dev nD) (t : Fin (cfgM m hO).N) (d) : (dats m hO hT 0 c).before 3 t d = iblk m hO c 3 t :=
  before0_3_of m hO (dats m hO hT 0 c) (A_eq m hO hT c 3) (after0_3 m hO hT c) t d
theorem before0_4 (hO : Ok m) (hT : InMap m) (c : Dev nD) (t : Fin (cfgM m hO).N) (d) : (dats m hO hT 0 c).before 4 t d = iblk m hO c 4 t :=
  before0_4_of m hO (dats m hO hT 0 c) (A_eq m hO hT c 4) (after0_4 m hO hT c) t d

/-- What the body is given at a point. -/
def bodyPre (hO : Ok m) (hT : InMap m) (c : Dev nD) (t : Fin (cfgM m hO).N) : sProp 𝕄 :=
  iprop((dats m hO hT 0 c).Φ t.castSucc ∗ (dats m hO hT 0 c).owesAt () t.castSucc
    ∗ (∃ d, owns (c : Thread nD τ) (ms0_0 m hO t) fullShare ((dats m hO hT 0 c).before 0 t d))
    ∗ (∃ d, owns (c : Thread nD τ) (ms0_1 m hO t) fullShare ((dats m hO hT 0 c).before 1 t d))
    ∗ (∃ d, owns (c : Thread nD τ) (ms0_2 m hO t) fullShare ((dats m hO hT 0 c).before 2 t d))
    ∗ (∃ d, owns (c : Thread nD τ) (ms0_3 m hO t) fullShare ((dats m hO hT 0 c).before 3 t d))
    ∗ (∃ d, owns (c : Thread nD τ) (ms0_4 m hO t) fullShare ((dats m hO hT 0 c).before 4 t d))
    ∗ (∃ d, owns (c : Thread nD τ) (ms0_5 m hO t) fullShare ((dats m hO hT 0 c).before 5 t d))
    ∗ (∃ d, owns (c : Thread nD τ) (ms0_6 m hO t) fullShare ((dats m hO hT 0 c).before 6 t d)))

/-- What the body gives back. -/
def bodyPost (hO : Ok m) (hT : InMap m) (c : Dev nD) (t : Fin (cfgM m hO).N) : sProp 𝕄 :=
  iprop((dats m hO hT 0 c).Φ t.succ ∗ (dats m hO hT 0 c).owesAt () t.succ
    ∗ owns (c : Thread nD τ) (ms0_0 m hO t) fullShare ((dats m hO hT 0 c).after 0 t)
    ∗ owns (c : Thread nD τ) (ms0_1 m hO t) fullShare ((dats m hO hT 0 c).after 1 t)
    ∗ owns (c : Thread nD τ) (ms0_2 m hO t) fullShare ((dats m hO hT 0 c).after 2 t)
    ∗ owns (c : Thread nD τ) (ms0_3 m hO t) fullShare ((dats m hO hT 0 c).after 3 t)
    ∗ owns (c : Thread nD τ) (ms0_4 m hO t) fullShare ((dats m hO hT 0 c).after 4 t)
    ∗ owns (c : Thread nD τ) (ms0_5 m hO t) fullShare ((dats m hO hT 0 c).after 5 t)
    ∗ owns (c : Thread nD τ) (ms0_6 m hO t) fullShare ((dats m hO hT 0 c).after 6 t))

set_option maxHeartbeats 1200000 in
/-- The body keeps its promise at every point: `kernelRun` at the buffers and blocks there. -/
theorem sound_body (hO : Ok m) (hT : InMap m) (c : Dev nD) (t : Fin (cfgM m hO).N) :
    bodyPre m hO hT c t ⊢ wp frame (wpE (defs₀ (F := F)) Variants.none c none) Set.univ (bodyAt0 (adm m hO) t) (fun _ => bodyPost m hO hT c t) := by
  unfold bodyPre bodyPost bodyAt0
  simp only [before0_0, before0_1, before0_2, before0_3, before0_4]
  rw [show (dats m hO hT 0 c).Φ t.succ = (dats m hO hT 0 c).Φ t.castSucc from rfl,
    show (dats m hO hT 0 c).owesAt () t.succ = (dats m hO hT 0 c).owesAt () t.castSucc from rfl,
    after0_0, after0_1, after0_2, after0_3, after0_4, after0_5, after0_6]
  rw [show (dats m hO hT 0 c).Φ t.castSucc = iprop(Pipeline.ΦA spec0 c ∗ Pipeline.ΦT pre0 (tbl m) c) from rfl, PhiT0_eq, PhiA0_eq]
  unfold outsAt0
  unfold out0_5 out0_6; (try dsimp only)
  iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ _ _ _ _ (iblk m hO c 0 t) (iblk m hO c 1 t) (iblk m hO c 2 t) (iblk m hO c 3 t) (iblk m hO c 4 t) (tbl m 0) hT).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, ⟨%e5, H5⟩, ⟨%e6, H6⟩, HS0, HS1, HS2, HS3, HS4, HT0⟩
  isplitl [HS0 HS1 HS2 HS3 HS4 Hg HT0]
  · isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _ _ _ _ _ _ _ _ _ _ _)
  unfold owns; iexists _; isplitr
  swap; · iexact H6
  ipureintro; exact View.read_writes_of_cover _ _ _ _ _ (cover0_6 c _ _ _ _ _ _ _ _ _ _ _ _ _ _ _ _ _ _ _ _ _ _ _ _ _ _ _ _ _ _ _ _)

/-- The table of bodies holds the body as `bodyAt0` writes it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The obligation of the pipeline, at every point. -/
theorem body_obligation (hO : Ok m) (hT : InMap m) (c : Dev nD) : BodyObligation (dats (F := F) m hO hT 0 c) (defs₀ (F := F)) Variants.none () Set.univ := fun t => by
  rw [bigSep_W0, bigSep_W0, defs₀_row m hO]
  exact triple_restated (sound_body m hO hT c t) rfl .rfl fun _ => .rfl

set_option backward.isDefEq.respectTransparency.types false in
set_option maxHeartbeats 800000 in
/-- The whole program runs, and every counter ends at zero. -/
theorem run_main_quiescent (hO : Ok m) (hT : InMap m) : θ_run defs (onTc (τ := τ) (main (F := F))) (s₀ m ρ) (fun r => (Pipeline.FramePost (Pipeline.pin pcfgs fun _ => adm m hO) (dats m hO hT) 0 (Pipeline.afterTail pcfgs (fun _ => adm m hO) (dats m hO hT) 0 (V0 m) [hostOps1])) r ∧ r.2.sem = fun _ => 0) :=
  Pipeline.θ_run_frameP_around (Q' := _) pcfgs (fun _ => adm m hO) (dats m hO hT) (0 : Fin 1) launch0 defs₀ Variants.none m ρ main
    (hbody := fun c => (body_obligation m hO hT c).loose) (hshare := fun c => (dats m hO hT 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hT) (hpf := V_pre m) (hΦ := fun _ _ => rfl)

/-- What the arrays hold at the end. -/
theorem run_main (hO : Ok m) (hT : InMap m) : θ_run defs (onTc (τ := τ) (main (F := F))) (s₀ m ρ) (Pipeline.FramePost (Pipeline.pin pcfgs fun _ => adm m hO) (dats m hO hT) 0 (Pipeline.afterTail pcfgs (fun _ => adm m hO) (dats m hO hT) 0 (V0 m) [hostOps1])) :=
  (θ_run defs _ _).mono (fun _ h => h.1) (run_main_quiescent m ρ hO hT)

/-- The arguments end as they were. -/
theorem unchanged (hO : Ok m) (hT : InMap m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO hT) (A_eq m hO hT) (run_main m ρ hO hT)

/-- The program ends, its arguments as they were and its counters at zero. -/
theorem frame (hO : Ok m) (hT : InMap m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hT) ((θ_run defs _ _).mono (fun _ h => h.2) (run_main_quiescent m ρ hO hT))

end Cert.Proof.KernelIdeal

end
-- ==== Proof.Ideal.Rows.lean ====
/- The gather, at the extended reals: the one-hot sums pick. A block's transpose, made by a product with
   the identity, is the transpose; a row picked by a word is the row the word names. -/
module

public import proofs.«01_k».proof.Proof.Ideal.Frame
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- Two small words are equal exactly when the numbers are. -/
theorem word_eq_iff {a b : ℕ} (ha : a < 4294967296) (hb : b < 4294967296) :
    BitVec.ofNat 32 a = BitVec.ofNat 32 b ↔ a = b := by
  constructor
  · intro h
    have := congrArg BitVec.toNat h
    simp only [BitVec.toNat_ofNat] at this
    omega
  · rintro rfl; rfl

/-- A one-hot sum picks the entry its word names. -/
theorem sum_pick {n : ℕ} (hn : n ≤ 4294967296) (f : Fin n → EReal) (i : Fin n) (w : BitVec 32)
    (hw : w = BitVec.ofNat 32 i.val) :
    (∑ x : Fin n, Scalar.select (IntOp.cmpi CmpIPredicate.eq (BitVec.ofNat 32 x.val) w) (f x) 0) = f i := by
  rw [Finset.sum_eq_single i]
  · subst hw; simp [Scalar.select, IntOp.cmpi, BitVec.ofBool]
  · intro b _ hb
    have : ¬ (BitVec.ofNat 32 b.val = w) := by
      rw [hw, word_eq_iff (by omega) (by omega)]
      exact fun h => hb (Fin.ext h)
    have e : (BitVec.ofNat 32 b.val == w) = false := beq_false_of_ne this
    simp [Scalar.select, IntOp.cmpi, BitVec.ofBool, e]
  · intro h; exact absurd (Finset.mem_univ i) h

/-- The first entry's map, transposed by the identity. -/
theorem pay46_at (v : Vec Ideal S1x64x4800 .f32) (p : Fin 4800) (c : Fin 64) :
    k0_pay46 (F := Ideal) v (ix2 p c) = v (ix3 0 c p) := by
  unfold k0_pay46 k0_pay45
  dsimp only
  pointwise
  exact sum_pick (by decide) (fun x => v (ix3 0 x p)) c _ rfl

/-- The second entry's map, transposed by the identity. -/
theorem pay47_at (v : Vec Ideal S1x64x4800 .f32) (p : Fin 4800) (c : Fin 64) :
    k0_pay47 (F := Ideal) v (ix2 p c) = v (ix3 0 c p) := by
  unfold k0_pay47 k0_pay45
  dsimp only
  pointwise
  exact sum_pick (by decide) (fun x => v (ix3 0 x p)) c _ rfl

/-- A row picked by a word is the row it names. -/
theorem pay2_at (w : BitVec 32) (v : Vec Ideal S8x64 .f32) (c : Fin 64) :
    k0_pay2 (F := Ideal) kernelRun.sl.v19 w v (ix2 0 c) = v (ix2 ⟨w.toNat % 8, Nat.mod_lt _ (by decide)⟩ c) := by
  unfold k0_pay2 kernelRun.sl.v19
  dsimp only
  pointwise
  refine sum_pick (by decide) (fun x => v (ix2 x c)) ⟨w.toNat % 8, _⟩ _ ?_
  apply BitVec.eq_of_toNat_eq
  show (w &&& 7#32).toNat = _
  rw [BitVec.toNat_and, BitVec.toNat_ofNat]
  show w.toNat &&& (2 ^ 3 - 1) = _
  rw [Nat.and_two_pow_sub_one_eq_mod]
  have := Nat.mod_lt w.toNat (show 0 < 8 by decide)
  show w.toNat % 8 = w.toNat % 8 % 4294967296
  omega

/-- A tap is the entry, in its column, of the row its word names. -/
theorem tap_at (i : grid0.Coords) (arg1 : Memref sig .tc .smem S4x1024 .i32) (arg9 : Memref sig .tc .vmem S9600x64 .f32)
    (T : BufTy.Contents (Elt Ideal) arg1.view.ty) (X : BufTy.Contents (Elt Ideal) arg9.view.ty)
    (hT : ∀ x, BitVec.toNat (arg1.view.read (Elt Ideal) T x) < 9600) (t : Fin 4) (j : Fin 512) (c : Fin 64) :
    tap (F := Ideal) i arg1 arg9 kernelRun.sl.v19 T X hT t (ix2 j c)
      = arg9.view.read (Elt Ideal) X (ix2 ⟨BitVec.toNat (wordAt (F := Ideal) i arg1 T t j), hT _⟩ c) := by
  unfold tap rowOf
  refine (pay2_at _ _ _).trans ?_
  refine congrArg (arg9.view.read (Elt Ideal) X) (funext fun a => Fin.ext ?_)
  fin_cases a
  · show k0_off2 (wordAt (F := Ideal) i arg1 T t j) 0 + 1 * (BitVec.toNat (wordAt (F := Ideal) i arg1 T t j) % 8) = BitVec.toNat (wordAt (F := Ideal) i arg1 T t j)
    have e := off_eq (wordAt (F := Ideal) i arg1 T t j) (hT _)
    rw [e]
    show BitVec.toNat (wordAt (F := Ideal) i arg1 T t j) / 8 * 8 + _ = _
    omega
  · show k0_off2 (wordAt (F := Ideal) i arg1 T t j) 1 + 1 * c.val = c.val
    have e := off_eq (wordAt (F := Ideal) i arg1 T t j) (hT _)
    rw [e]
    show 0 + 1 * c.val = c.val
    omega

/-- Two blocks of 4800 rows, the second entry's map above the first's in the list of stores. -/
theorem rows_read (arg9 : Memref sig .tc .vmem S9600x64 .f32) (f : BufTy.Contents (Elt Ideal) arg9.view.ty) (D : Fin 2 → Fin 64 → Fin 4800 → EReal)
    (h1 : ∀ a, (![4800, 0] : Fin 2 → ℕ) a + S4800x64.size a ≤ S9600x64.size a) (h0 : ∀ a, (![0, 0] : Fin 2 → ℕ) a + S4800x64.size a ≤ S9600x64.size a)
    (w1 w0 : S4800x64.Idx → EReal) (e1 : ∀ p c, w1 (ix2 p c) = D 1 c p) (e0 : ∀ p c, w0 (ix2 p c) = D 0 c p) (p : Fin 9600) (c : Fin 64) :
    arg9.view.read (Elt Ideal) (arg9.view.writes (Elt Ideal) f
        [(⟨Rect.unit (s := S9600x64) ![4800, 0] S4800x64.size h1, w1⟩ : View.Piece (Elt Ideal) S9600x64 .f32), (⟨Rect.unit (s := S9600x64) ![0, 0] S4800x64.size h0, w0⟩ : View.Piece (Elt Ideal) S9600x64 .f32)]) (ix2 p c)
      = D ⟨p.val / 4800, by omega⟩ c ⟨p.val % 4800, Nat.mod_lt _ (by decide)⟩ := by
  refine View.read_writes_apply_of_pieces (Val := Elt Ideal) (v := arg9.view) (f := f) (fun y : S9600x64.Idx => D ⟨(y 0).val / 4800, by have : (y 0).val < 9600 := (y 0).isLt; omega⟩ (y 1) ⟨(y 0).val % 4800, Nat.mod_lt _ (by decide)⟩) _ ?_ _ ?_
  · intro q hq x
    rcases List.mem_cons.mp hq with rfl | hq
    · have hx0 : (x 0).val < 4800 := (x 0).isLt
      have ex : x = ix2 (⟨(x 0).val, hx0⟩ : Fin 4800) (x 1 : Fin 64) := by funext a; match a with | 0 => rfl | 1 => rfl
      refine (congrArg w1 ex).trans ((e1 _ _).trans ?_)
      have a0 : (4800 + 1 * (x 0).val) / 4800 = 1 := by omega
      have a1 : (4800 + 1 * (x 0).val) % 4800 = (x 0).val := by omega
      have a2 : 0 + 1 * (x 1).val = (x 1).val := by omega
      exact congr (congr (congrArg D (Fin.ext a0.symm)) (Fin.ext a2.symm)) (Fin.ext a1.symm)
    · obtain rfl := List.mem_singleton.mp hq
      have hx0 : (x 0).val < 4800 := (x 0).isLt
      have ex : x = ix2 (⟨(x 0).val, hx0⟩ : Fin 4800) (x 1 : Fin 64) := by funext a; match a with | 0 => rfl | 1 => rfl
      refine (congrArg w0 ex).trans ((e0 _ _).trans ?_)
      have a0 : (0 + 1 * (x 0).val) / 4800 = 0 := by omega
      have a1 : (0 + 1 * (x 0).val) % 4800 = (x 0).val := by omega
      have a2 : 0 + 1 * (x 1).val = (x 1).val := by omega
      exact congr (congr (congrArg D (Fin.ext a0.symm)) (Fin.ext a2.symm)) (Fin.ext a1.symm)
  · have hc : c.val < 64 := c.isLt
    by_cases hp : p.val < 4800
    · refine ⟨_, List.mem_cons_of_mem _ (List.mem_singleton_self _), ?_⟩
      rw [Rect.mem_set_unit]
      intro a
      fin_cases a
      · show 0 ≤ p.val ∧ p.val < 0 + 4800
        omega
      · show 0 ≤ c.val ∧ c.val < 0 + 64
        omega
    · refine ⟨_, List.mem_cons_self, ?_⟩
      rw [Rect.mem_set_unit]
      intro a
      fin_cases a
      · show 4800 ≤ p.val ∧ p.val < 4800 + 4800
        omega
      · show 0 ≤ c.val ∧ c.val < 0 + 64
        omega

end Cert.Proof.KernelIdeal

end
-- ==== Proof.Sample.lean ====
/- The four bilinear taps of one keypoint, as words: which batch entry, row and column each names, from the
   keypoint's own three coordinates. Shared by the two readings of the program and by the reference. -/
module

public import Idealize.ShloMosaic.PureOps.Vector

@[expose] public section

noncomputable section

namespace Cert.Proof

open Idealize.ShloMosaic

variable {F : FTy → Type} [FloatOps F]

/-- A column coordinate, an eighth of the pixel's, clamped to the map. -/
def gridX (x : F .f32) : F .f32 :=
  FloatOps.minimumf (FloatOps.ofBits .f32 1117650944#32)
    (FloatOps.maximumf (FloatOps.ofBits .f32 0#32) (FloatOps.hostDivf x (FloatOps.ofBits .f32 1090519040#32)))

/-- A row coordinate, likewise. -/
def gridY (y : F .f32) : F .f32 :=
  FloatOps.minimumf (FloatOps.ofBits .f32 1114374144#32)
    (FloatOps.maximumf (FloatOps.ofBits .f32 0#32) (FloatOps.hostDivf y (FloatOps.ofBits .f32 1090519040#32)))

/-- The left column of the four taps. -/
def colLo (x : F .f32) : BitVec 32 := FloatOps.fptosi 32 (FloatOps.hostUnary .floor (gridX x))

/-- The right column. -/
def colHi (x : F .f32) : BitVec 32 :=
  FloatOps.fptosi 32 (FloatOps.minimumf (FloatOps.addf (FloatOps.hostUnary .floor (gridX x))
    (FloatOps.ofBits .f32 1065353216#32)) (FloatOps.ofBits .f32 1117650944#32))

/-- The upper row. -/
def rowLo (y : F .f32) : BitVec 32 := FloatOps.fptosi 32 (FloatOps.hostUnary .floor (gridY y))

/-- The lower row. -/
def rowHi (y : F .f32) : BitVec 32 :=
  FloatOps.fptosi 32 (FloatOps.minimumf (FloatOps.addf (FloatOps.hostUnary .floor (gridY y))
    (FloatOps.ofBits .f32 1065353216#32)) (FloatOps.ofBits .f32 1114374144#32))

/-- The batch entry. -/
def entry (b : F .f32) : BitVec 32 := FloatOps.fptosi 32 b

/-- The row of a tap: the upper one for the first two. -/
def tapRow (t : Fin 4) (y : F .f32) : BitVec 32 := if t.1 < 2 then rowLo y else rowHi y

/-- The column of a tap: the left one for the even ones. -/
def tapCol (t : Fin 4) (x : F .f32) : BitVec 32 := if t.1 % 2 = 0 then colLo x else colHi x

/-- What it takes for a keypoint's taps to lie in the map. -/
structure InRange (b y x : F .f32) : Prop where
  entry : (entry b).toNat < 2
  row : ∀ t, (tapRow t y).toNat < 60
  col : ∀ t, (tapCol t x).toNat < 80

/-- The row of the transposed map that a tap names. -/
theorem word_toNat {b y x : F .f32} (h : InRange b y x) (t : Fin 4) :
    (entry b * 4800#32 + tapRow t y * 80#32 + tapCol t x).toNat
      = (entry b).toNat * 4800 + (tapRow t y).toNat * 80 + (tapCol t x).toNat := by
  have h1 := h.entry
  have h2 := h.row t
  have h3 := h.col t
  simp only [BitVec.toNat_add, BitVec.toNat_mul, BitVec.toNat_ofNat]
  omega

end Cert.Proof

end
-- ==== Proof.Spec.lean ====
/- What both programs compute, at the extended reals and one entry at a time: the bilinear sample of a
   descriptor. -/
module

public import proofs.«01_k».proof.Proof.Sample
public import Idealize.ShloMosaic.Lib.Pointwise

@[expose] public section

noncomputable section

namespace Cert.Proof

open Idealize.ShloMosaic

/-- The fraction of a column coordinate. -/
def fracX (x : EReal) : EReal := gridX (F := Ideal) x - FloatOps.hostUnary (F := Ideal) (φ := .f32) .floor (gridX (F := Ideal) x)

/-- The fraction of a row coordinate. -/
def fracY (y : EReal) : EReal := gridY (F := Ideal) y - FloatOps.hostUnary (F := Ideal) (φ := .f32) .floor (gridY (F := Ideal) y)

/-- The bilinear mean of four taps at a keypoint's row and column. -/
def mean (y x : EReal) (g : Fin 4 → EReal) : EReal :=
  (1 - fracY y) * ((1 - fracX x) * g 0 + fracX x * g 1) + fracY y * ((1 - fracX x) * g 2 + fracX x * g 3)

/-- The entry of a map that three words name, in a column: clamped to the map, as a gather clamps. -/
def pick (d : (⟨4, ![2, 64, 60, 80]⟩ : Shape).Idx → EReal) (b y x : BitVec 32) (c : Fin 64) : EReal :=
  d (ix4 ⟨min b.toNat 1, by omega⟩ c ⟨min y.toNat 59, by omega⟩ ⟨min x.toNat 79, by omega⟩)

/-- The descriptor of a keypoint, in a column. -/
def sample (kp : (⟨2, ![1024, 4]⟩ : Shape).Idx → EReal) (d : (⟨4, ![2, 64, 60, 80]⟩ : Shape).Idx → EReal) (k : Fin 1024) (c : Fin 64) : EReal :=
  mean (kp (ix2 k 2)) (kp (ix2 k 3)) fun t =>
    pick d (entry (F := Ideal) (kp (ix2 k 0))) (tapRow (F := Ideal) t (kp (ix2 k 2))) (tapCol (F := Ideal) t (kp (ix2 k 3))) c

/-- A point the matrix sends a cell's centre to, one of its two coordinates. -/
def warp (H : Fin 3 → Fin 3 → EReal) (e : Fin 3) (x y : EReal) : EReal :=
  Ideal.div (H e 0 * x + H e 1 * y + H e 2) (H 2 0 * x + H 2 1 * y + H 2 2)

/-- A keypoint's coordinate: an eighth of the pixel's for the first two keypoints, the pixel's for the rest. -/
def key (k : BitVec 32) (v : EReal) : EReal :=
  Scalar.select (IntOp.cmpi .slt k 2#32) (Ideal.div v (Ideal.ofBits FTy.f32 1090519040#32)) v

/-- The centre, in pixels, of the cell in a place along an axis. -/
def centre (p : ℕ) : EReal :=
  FloatOps.sitofp (F := Ideal) .f32 (BitVec.ofNat 32 p) * Ideal.ofBits FTy.f32 1090519040#32 + Ideal.ofBits FTy.f32 1082130432#32

/-- A number in the mask. -/
def Bit (v : EReal) : Prop := v = 0 ∨ v = 1

theorem Bit.sq {v : EReal} (h : Bit v) : v * v = v := by rcases h with rfl | rfl <;> simp

/-- A descriptor's distance to a cell's. -/
def dist (D d : Fin 64 → EReal) : EReal :=
  Ideal.sqrt (max (∑ e, D e * D e + ∑ e, d e * d e - Ideal.ofBits FTy.f32 1073741824#32 * ∑ e, d e * D e) (Ideal.ofBits FTy.f32 730643660#32))

/-- One where a warped cell is near a keypoint, zero elsewhere. -/
def near (gx gy wx wy : EReal) : EReal :=
  FloatOps.uitofp (F := Ideal) .f32 (BitVec.ofBool (decide (Ideal.sqrt ((gx - wx) * (gx - wx) + (gy - wy) * (gy - wy)) ≤ Ideal.ofBits FTy.f32 1089470464#32)))

/-- One keypoint's hinge loss against one view: its greatest distance to an unmatched cell, less its least to a
    matched one, plus the margin. -/
def rowLoss (D : Fin 64 → EReal) (gx gy : EReal) (d : Fin 64 → Fin 4800 → EReal) (v wx wy : Fin 4800 → EReal) : EReal :=
  max (Finset.fold max (Ideal.ofBits FTy.f32 4286578688#32)
        (fun p => dist D (fun e => d e p) - (1 - near gx gy (wx p) (wy p)) * v p * Ideal.ofBits FTy.f32 1084227584#32) Finset.univ
      - Finset.fold min (Ideal.ofBits FTy.f32 2139095040#32)
        (fun p => dist D (fun e => d e p) + near gx gy (wx p) (wy p) * v p * Ideal.ofBits FTy.f32 1084227584#32) Finset.univ + 1) 0

/-- Keypoint `k`'s loss against view `n`: the arguments are the keypoints, the two maps, the homographies and the mask. -/
def lossAt (a0 : (⟨2, ![1024, 4]⟩ : Shape).Idx → EReal) (a1 a2 : (⟨4, ![2, 64, 60, 80]⟩ : Shape).Idx → EReal) (a3 : (⟨3, ![2, 3, 3]⟩ : Shape).Idx → EReal)
    (a4 : (⟨4, ![2, 1, 480, 640]⟩ : Shape).Idx → EReal) (n : Fin 2) (k : Fin 1024) : EReal :=
  rowLoss (fun e => sample a0 a1 k e) (key (BitVec.ofNat 32 k.val) (a0 (ix2 k 3))) (key (BitVec.ofNat 32 k.val) (a0 (ix2 k 2)))
    (fun e p => a2 (ix4 n e ⟨p.val / 80, by omega⟩ ⟨p.val % 80, by omega⟩))
    (fun p => a4 (ix4 n 0 ⟨p.val / 80 * 8, by omega⟩ ⟨p.val % 80 * 8, by omega⟩))
    (fun p => warp (fun a b => a3 (ix3 n a b)) 0 (centre (p.val % 80)) (centre (p.val / 80)))
    (fun p => warp (fun a b => a3 (ix3 n a b)) 1 (centre (p.val % 80)) (centre (p.val / 80)))

/-- The loss: the mean of those over views and keypoints. -/
def meanLoss (a0 : (⟨2, ![1024, 4]⟩ : Shape).Idx → EReal) (a1 a2 : (⟨4, ![2, 64, 60, 80]⟩ : Shape).Idx → EReal) (a3 : (⟨3, ![2, 3, 3]⟩ : Shape).Idx → EReal)
    (a4 : (⟨4, ![2, 1, 480, 640]⟩ : Shape).Idx → EReal) : EReal :=
  Ideal.div (∑ n : Fin 2, ∑ k : Fin 1024, lossAt a0 a1 a2 a3 a4 n k) (Ideal.ofBits FTy.f32 1157627904#32)

/-- The descriptors. -/
def descriptors (a0 : (⟨2, ![1024, 4]⟩ : Shape).Idx → EReal) (a1 : (⟨4, ![2, 64, 60, 80]⟩ : Shape).Idx → EReal) : (⟨2, ![1024, 64]⟩ : Shape).Idx → EReal :=
  fun i => sample a0 a1 (i 0) (i 1)

end Cert.Proof

end
-- ==== Proof.Ideal.Out.lean ====
/- What the body leaves in its two outputs, as payloads. -/
module

public import proofs.«01_k».proof.Proof.Ideal.Rows
public import proofs.«01_k».proof.Proof.Spec
public import Idealize.ShloMosaic.Lib.WholeRead
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe

/-- The body's bilinear mean, at an index. -/
theorem pay52_at (vx vy : S512x1.Idx → EReal) (t0 t1 t2 t3 : S512x64.Idx → EReal) (j : Fin 512) (e : Fin 64) :
    k0_pay52 (F := Ideal) (k0_pay51 vx) vy kernelRun.sl.cst_16 t0 t1 t2 t3 (ix2 j e)
      = mean (vy (ix2 j 0)) (vx (ix2 j 0)) ![t0 (ix2 j e), t1 (ix2 j e), t2 (ix2 j e), t3 (ix2 j e)] := by
  unfold k0_pay52 k0_pay51 kernelRun.sl.cst_16 mean fracX fracY gridX gridY
  dsimp only
  pointwise

section Out

variable (c : Dev nD) (i : grid0.Coords) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
    (x0 : Vec Ideal S512x4 .f32) (x1 : Vec Ideal S2x64x4800 .f32) (x2 : Vec Ideal S2x64x4800 .f32) (x3 : Vec Ideal S2x4800 .f32) (x4 : Vec Ideal S2x3x3 .f32) (xt0 : TbBuf0 (F := Ideal) c tbM0_0) (hT : ∀ x, BitVec.toNat (tbM0_0.view.read (Elt Ideal) xt0 x) < 9600)

/-- The transposed map, as the two stores leave it. -/
theorem map_at (p : Fin 9600) (e : Fin 64) :
    arg9.view.read (Elt Ideal) (arg9.view.writes (Elt Ideal) arg9.view.junk (kernelRun.sl.HS0_2 c arg3 harg3 x1)) (ix2 p e)
      = x1 (ix3 ⟨p.val / 4800, by omega⟩ e ⟨p.val % 4800, Nat.mod_lt _ (by decide)⟩) := by
  unfold kernelRun.sl.HS0_2
  refine rows_read arg9 _ (fun n e p => x1 (ix3 n e p)) _ _ _ _ ?_ ?_ p e
  · intro p e
    refine (pay47_at _ p e).trans ((Memref.IsWhole.readAt_unread _ _ _ _).trans (congrArg x1 ?_))
    funext a; apply Fin.ext
    match a with
    | 0 => rfl
    | 1 => show 0 + 1 * e.val = e.val; omega
    | 2 => show 0 + 1 * p.val = p.val; omega
  · intro p e
    refine (pay46_at _ p e).trans ((Memref.IsWhole.readAt_unread _ _ _ _).trans (congrArg x1 ?_))
    funext a; apply Fin.ext
    match a with
    | 0 => rfl
    | 1 => show 0 + 1 * e.val = e.val; omega
    | 2 => show 0 + 1 * p.val = p.val; omega

/-- What a tap buffer's load reads, in a row and column. -/
def tapVal (t : Fin 4) (j : Fin 512) (e : Fin 64) : EReal :=
  x1 (ix3 ⟨BitVec.toNat (wordAt (F := Ideal) i tbM0_0 xt0 t j) / 4800, by have := hT (ix2 t (posOf i j)); unfold wordAt; omega⟩ e
    ⟨BitVec.toNat (wordAt (F := Ideal) i tbM0_0 xt0 t j) % 4800, Nat.mod_lt _ (by decide)⟩)

/-- A load of a whole tap buffer after the loop. -/
theorem tapLoad (t : Fin 4) (arg : Memref sig .tc .vmem S512x64 .f32) (h : ∀ a, (![0, 0] : Fin 2 → ℕ) a + S512x64.size a ≤ S512x64.size a) (j : Fin 512) (e : Fin 64) :
    arg.view.readCov (Val := Elt Ideal) (slabs i tbM0_0 arg9 kernelRun.sl.v19 xt0 (arg9.view.writes (Elt Ideal) arg9.view.junk (kernelRun.sl.HS0_2 c arg3 harg3 x1)) hT t (Scf.trips k0_t1_loop.lb k0_t1_loop.ub k0_t1_loop.st)) (Rect.unit (s := S512x64) ![0, 0] S512x64.size h).toLoadRect (ix2 j e)
      = tapVal c i x1 xt0 hT t j e := by
  refine (congrFun (load_slabs _ _ _ _ _ _ hT t arg _ _) _).trans ?_
  have ei : (Rect.unit (s := S512x64) ![0, 0] S512x64.size h).toLoadRect.idx (ix2 j e) = ix2 j e := by
    funext a; apply Fin.ext
    match a with
    | 0 => show 0 + 1 * j.val = j.val; omega
    | 1 => show 0 + 1 * e.val = e.val; omega
  rw [ei]
  exact (tap_at _ _ _ _ _ _ _ _ _).trans (map_at c arg3 harg3 arg9 x1 _ _)

/-- A column of the keypoints' block. -/
theorem col_at (n : Fin 4) (off : Fin 2 → ℕ) (ho : off = ![0, n.val]) (h : ∀ a, off a + S512x1.size a ≤ S512x4.size a) (j : Fin 512) :
    arg2.view.readAt (Elt Ideal) (Rect.unit (s := S512x4) off S512x1.size h).toLoadRect (harg2.unread x0) (ix2 j 0) = x0 (ix2 j n) := by
  subst ho
  refine (Memref.IsWhole.readAt_unread _ _ _ _).trans (congrArg x0 ?_)
  funext a; apply Fin.ext
  match a with
  | 0 => show 0 + 1 * j.val = j.val; omega
  | 1 => rfl

/-- The descriptors the body computes. -/
abbrev desc : FVec Ideal S512x64 .f32 :=
  k0_pay52 (kernelRun.sl.r c arg2 harg2 x0) (kernelRun.sl.r_1 c arg2 harg2 x0) kernelRun.sl.cst_16
      (kernelRun.sl.v43 c i arg3 harg3 arg9 arg10 x1 xt0 hT) (kernelRun.sl.v46 c i arg3 harg3 arg9 arg11 x1 xt0 hT)
      (kernelRun.sl.v54 c i arg3 harg3 arg9 arg12 x1 xt0 hT) (kernelRun.sl.v57 c i arg3 harg3 arg9 arg13 x1 xt0 hT)

theorem desc_at (j : Fin 512) (e : Fin 64) :
    desc c i arg2 harg2 arg3 harg3 arg9 arg10 arg11 arg12 arg13 x0 x1 xt0 hT (ix2 j e)
      = mean (x0 (ix2 j 2)) (x0 (ix2 j 3)) fun t => tapVal c i x1 xt0 hT t j e := by
  unfold desc kernelRun.sl.r kernelRun.sl.r_1 kernelRun.sl.v43 kernelRun.sl.v46 kernelRun.sl.v54 kernelRun.sl.v57
  refine (pay52_at _ _ _ _ _ _ j e).trans ?_
  rw [col_at arg2 harg2 x0 2 ![0, 2] rfl, col_at arg2 harg2 x0 3 ![0, 3] rfl, tapLoad, tapLoad, tapLoad, tapLoad]
  congr 1
  funext t
  fin_cases t <;> rfl

/-- The descriptors, tap by tap. -/
theorem out5_at (j : Fin 512) (e : Fin 64) :
    out0_5 (F := Ideal) c i arg2 harg2 arg3 harg3 arg4 harg4 arg5 harg5 arg6 harg6 arg7 harg7 arg8 harg8 arg9 harg9 arg10 harg10 arg11 harg11 arg12 harg12 arg13 harg13 x0 x1 x2 x3 x4 xt0 hT (ix2 j e)
      = mean (x0 (ix2 j 2)) (x0 (ix2 j 3)) fun t =>
          x1 (ix3 ⟨BitVec.toNat (wordAt (F := Ideal) i tbM0_0 xt0 t j) / 4800, by have := hT (ix2 t (posOf i j)); unfold wordAt; omega⟩ e
            ⟨BitVec.toNat (wordAt (F := Ideal) i tbM0_0 xt0 t j) % 4800, Nat.mod_lt _ (by decide)⟩) := by
  unfold out0_5 kernelRun
  dsimp only
  refine (congrFun (View.read_writes_full _ _ _ _ _) _).trans ?_
  exact desc_at c i arg2 harg2 arg3 harg3 arg9 arg10 arg11 arg12 arg13 x0 x1 xt0 hT j e

end Out

end Cert.Proof.KernelIdeal

end
-- ==== Proof.Ideal.Block.lean ====
/- One block of 128 keypoints' hinge losses against one view, as the body computes it, and the sum it comes
   to: eight such blocks are the body's loss. -/
module

public import proofs.«01_k».proof.Proof.Ideal.Frame
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

section Block

variable {F : FTy → Type} [FloatOps F]
variable (o : ℕ) (h1 : S512x64.Slices ![o, 0] S128x64) (h2 : S512x1.Slices ![o, 0] S128x1) (h3 : S512x4.Slices ![o, 0] S128x4)

variable (v67 : FVec F S512x1 .f32) (v69 : FVec F S512x64 .f32) (v89 : FVec F S512x4 .f32) (v143 : FVec F S64x4800 .f32) (v146 : FVec F S1x4800 .f32) (v150 : FVec F S1x4800 .f32) (v159 : FVec F S4x4800 .f32)

/-- The distances of the block's descriptors to every cell's. -/
def dists : FVec F S128x4800 .f32 :=
  sqrt (maximumf (addf (addf (broadcastTo S128x4800 (extractStridedSlice S128x1 ![o, 0] v67 h2) broadcasts_S128x1_S128x4800) (broadcastTo S128x4800 v146 broadcasts_S1x4800_S128x4800))
    (matmul dot_S128x64_S64x4800_S128x4800_1_0_0_1_n_n none (extractStridedSlice S128x64 ![o, 0] v69 h1) v143 (constant S128x4800 .f32 0x00000000#32)))
    (broadcast S128x4800 (Scalar.ofBits .f32 0x2B8CBCCC#32)))

/-- The distances, those near the keypoint raised by the margin. -/
def raised (d : FVec F S128x4800 .f32) : FVec F S128x4800 .f32 :=
  addf d (select (cmpf .ole (matmul dot_S128x4_S4x4800_S128x4800_1_0_0_1_n_n none (extractStridedSlice S128x4 ![o, 0] v89 h3) v159 (constant S128x4800 .f32 0x00000000#32)) (broadcast S128x4800 (Scalar.ofBits .f32 0x42610000#32)))
    (broadcastTo S128x4800 (shapeCast S1x4800 v150 shapeCasts_S1x4800_S1x4800) broadcasts_S1x4800_S128x4800) (broadcast S128x4800 (Scalar.ofBits .f32 0x00000000#32)))

/-- The largest of the lowered less the smallest of the raised, and one more. -/
def margins (b : FVec F S128x4800 .f32) : FVec F S128x1 .f32 :=
  addf (subf (shapeCast S128x1 (multiReduction .maximumf [1] S128 (subf b (broadcastTo S128x4800 v150 broadcasts_S1x4800_S128x4800)) 0xFF800000#32 reduces_S128x4800_S128 (.inl rfl) rfl) shapeCasts_S128_S128x1)
    (shapeCast S128x1 (multiReduction .minimumf [1] S128 b 0x7F800000#32 reduces_S128x4800_S128 (.inl rfl) rfl) shapeCasts_S128_S128x1))
    (broadcast S128x1 (Scalar.ofBits .f32 0x3F800000#32))

/-- The sum of the positive parts. -/
def hinge (g : FVec F S128x1 .f32) : F .f32 :=
  extractAt ![0, 0, 0] (shapeCast S1x1x1 (multiReduction .add [1, 2] S1 (shapeCast S1x128x1 (maximumf g (broadcast S128x1 (Scalar.ofBits .f32 0x00000000#32))) shapeCasts_S128x1_S1x128x1) 0x00000000#32 reduces_S1x128x1_S1 (.inl rfl) rfl) shapeCasts_S1_S1x1x1) inpos_S1x1x1_p0_0_0

/-- The block's loss. -/
def block : F .f32 := hinge (margins v150 (raised o h3 v89 v150 v159 (dists o h1 h2 v67 v69 v143 v146)))

/-- The first view's first block. -/
theorem first0 (a b e d : FVec F S1x4800 .f32) :
    k0_pay72 v67 v69 v89 v143 v146 v150 a b e d = Scalar.addf (Scalar.ofBits .f32 0x00000000#32) (block 0 slices_S512x64_o0_0_S128x64 slices_S512x1_o0_0_S128x1 slices_S512x4_o0_0_S128x4 v67 v69 v89 v143 v146 v150 (k0_pay71 a b e d)) := rfl

/-- Its second. -/
theorem first1 (z : F .f32) :
    k0_pay75 v150 v159 z (k0_pay73 v67 v69 v143 v146) (k0_pay74 v89) = Scalar.addf z (block 128 slices_S512x64_o128_0_S128x64 slices_S512x1_o128_0_S128x1 slices_S512x4_o128_0_S128x4 v67 v69 v89 v143 v146 v150 v159) := rfl

/-- Its third. -/
theorem first2 (z : F .f32) :
    k0_pay78 z (k0_pay76 v67 v69 v89 v143 v146 v150 v159) (k0_pay77 v67 v69 v89 v143 v146 v150 v159) = Scalar.addf z (block 256 slices_S512x64_o256_0_S128x64 slices_S512x1_o256_0_S128x1 slices_S512x4_o256_0_S128x4 v67 v69 v89 v143 v146 v150 v159) := rfl

/-- Its fourth. -/
theorem first3 (z : F .f32) :
    k0_pay80 z (k0_pay79 v67 v69 v89 v143 v146 v150 v159) = Scalar.addf z (block 384 slices_S512x64_o384_0_S128x64 slices_S512x1_o384_0_S128x1 slices_S512x4_o384_0_S128x4 v67 v69 v89 v143 v146 v150 v159) := rfl

/-- The second view's first block. -/
theorem second0 (z : F .f32) (a b e d : FVec F S1x4800 .f32) :
    k0_pay91 v67 v69 v89 z a b v143 v146 v150 e d = Scalar.addf z (block 0 slices_S512x64_o0_0_S128x64 slices_S512x1_o0_0_S128x1 slices_S512x4_o0_0_S128x4 v67 v69 v89 v143 v146 v150 (k0_pay90 a b e d)) := rfl

/-- Its second. -/
theorem second1 (z : F .f32) :
    k0_pay93 v89 v150 v159 z (k0_pay92 v67 v69 v143 v146) = Scalar.addf z (block 128 slices_S512x64_o128_0_S128x64 slices_S512x1_o128_0_S128x1 slices_S512x4_o128_0_S128x4 v67 v69 v89 v143 v146 v150 v159) := rfl

/-- Its third. -/
theorem second2 (z : F .f32) :
    k0_pay96 v150 z (k0_pay94 v67 v69 v143 v146) (k0_pay95 v89 v150 v159) = Scalar.addf z (block 256 slices_S512x64_o256_0_S128x64 slices_S512x1_o256_0_S128x1 slices_S512x4_o256_0_S128x4 v67 v69 v89 v143 v146 v150 v159) := rfl

/-- Its fourth, and the sum spread over the output's block. -/
theorem second3 (z : F .f32) :
    k0_pay1 z (k0_pay97 v67 v69 v89 v143 v146 v150 v159) k0_pay98 = shapeCast S1x8x128 (broadcast S8x128 (Scalar.addf z (block 384 slices_S512x64_o384_0_S128x64 slices_S512x1_o384_0_S128x1 slices_S512x4_o384_0_S128x4 v67 v69 v89 v143 v146 v150 v159))) shapeCasts_S8x128_S1x8x128 := rfl

end Block

end Cert.Proof.KernelIdeal

end
-- ==== Proof.Ideal.BlockSum.lean ====
/- A block's loss at the extended reals: the sum, over its 128 keypoints, of one keypoint's hinge loss. -/
module

public import proofs.«01_k».proof.Proof.Ideal.Block

@[expose] public section

set_option maxRecDepth 16384

noncomputable section

namespace Cert.Proof.KernelIdeal

open Cert.KernelIdeal Cert.KernelIdeal.Gen
open Idealize.ShloMosaic Idealize.ShloMosaic.TcCoe

/-- One keypoint's hinge loss against one view, from the numbers the body has of it. -/
def rowBody (ksq : EReal) (km2 : Fin 64 → EReal) (gl : Fin 4 → EReal) (d2 : Fin 64 → Fin 4800 → EReal) (d2sq vm5 : Fin 4800 → EReal) (gr : Fin 4 → Fin 4800 → EReal) : EReal :=
  max (Finset.fold max (Ideal.ofBits FTy.f32 4286578688#32)
        (fun p => (Ideal.sqrt (max (ksq + d2sq p + ∑ e, km2 e * d2 e p) (Ideal.ofBits FTy.f32 730643660#32))
          + if ∑ q, gl q * gr q p ≤ Ideal.ofBits FTy.f32 1113653248#32 then vm5 p else 0) - vm5 p) Finset.univ
      - Finset.fold min (Ideal.ofBits FTy.f32 2139095040#32)
        (fun p => Ideal.sqrt (max (ksq + d2sq p + ∑ e, km2 e * d2 e p) (Ideal.ofBits FTy.f32 730643660#32))
          + if ∑ q, gl q * gr q p ≤ Ideal.ofBits FTy.f32 1113653248#32 then vm5 p else 0) Finset.univ + 1) 0

/-- The block's loss is the sum over its keypoints. -/
theorem block_eq (o : ℕ) (ho : o + 128 ≤ 512) (h1 : S512x64.Slices ![o, 0] S128x64) (h2 : S512x1.Slices ![o, 0] S128x1) (h3 : S512x4.Slices ![o, 0] S128x4)
    (v67 : FVec Ideal S512x1 .f32) (v69 : FVec Ideal S512x64 .f32) (v89 : FVec Ideal S512x4 .f32) (v143 : FVec Ideal S64x4800 .f32) (v146 : FVec Ideal S1x4800 .f32) (v150 : FVec Ideal S1x4800 .f32) (v159 : FVec Ideal S4x4800 .f32) :
    block (F := Ideal) o h1 h2 h3 v67 v69 v89 v143 v146 v150 v159
      = ∑ r : Fin 128, rowBody (v67 (ix2 ⟨o + r.val, by omega⟩ 0)) (fun e => v69 (ix2 ⟨o + r.val, by omega⟩ e)) (fun q => v89 (ix2 ⟨o + r.val, by omega⟩ q))
          (fun e p => v143 (ix2 e p)) (fun p => v146 (ix2 0 p)) (fun p => v150 (ix2 0 p)) (fun q p => v159 (ix2 q p)) := by
  unfold block hinge margins raised dists
  pointwise
  refine Finset.sum_congr rfl fun r _ => ?_
  rw [Finset.sum_const, Finset.card_univ, Fintype.card_fin, one_smul]
  rfl

end Cert.Proof.KernelIdeal

end
-- ==== Proof.Ideal.Terms.lean ====
/- The vectors the body makes of its blocks, at an index. -/
module

public import proofs.«01_k».proof.Proof.Spec
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.ShloMosaic.TcCoe

/-- The row of a cell, as the body finds it from the cell's number. -/
def cellRow (p : Fin 4800) : EReal :=
  FloatOps.hostUnary (F := Ideal) (φ := .f32) .floor (Ideal.div (FloatOps.sitofp (F := Ideal) .f32 (BitVec.ofNat 32 p.val) + Ideal.ofBits FTy.f32 1056964608#32) (Ideal.ofBits FTy.f32 1117782016#32))

/-- The centre of a cell: its column coordinate. -/
def cellX (p : Fin 4800) : EReal :=
  (FloatOps.sitofp (F := Ideal) .f32 (BitVec.ofNat 32 p.val) - Ideal.ofBits FTy.f32 1117782016#32 * cellRow p) * Ideal.ofBits FTy.f32 1090519040#32 + Ideal.ofBits FTy.f32 1082130432#32

/-- Its row coordinate. -/
def cellY (p : Fin 4800) : EReal := cellRow p * Ideal.ofBits FTy.f32 1090519040#32 + Ideal.ofBits FTy.f32 1082130432#32

theorem pay58_at (p : Fin 4800) : k0_pay58 (F := Ideal) (ix2 0 p) = cellX p := by
  unfold k0_pay58 k0_pay57 k0_pay56 cellX cellRow
  dsimp only
  pointwise

theorem pay59_at (p : Fin 4800) : k0_pay59 (F := Ideal) (ix2 0 p) = cellY p := by
  unfold k0_pay59 k0_pay57 k0_pay56 cellY cellRow
  dsimp only
  pointwise

section Warp

variable (X Y : S1x4800.Idx → EReal) (M : S1x3x3.Idx → EReal)

theorem pay62_at (p : Fin 4800) : k0_pay62 (F := Ideal) X Y M (ix2 0 p) = warp (fun a b => M (ix3 0 a b)) 0 (X (ix2 0 p)) (Y (ix2 0 p)) := by
  unfold k0_pay62 k0_pay61 k0_pay60 warp
  dsimp only
  pointwise

theorem pay63_at (p : Fin 4800) : k0_pay63 (F := Ideal) X Y M (ix2 0 p) = warp (fun a b => M (ix3 0 a b)) 1 (X (ix2 0 p)) (Y (ix2 0 p)) := by
  unfold k0_pay63 k0_pay61 k0_pay60 warp
  dsimp only
  pointwise

theorem pay83_at (p : Fin 4800) : k0_pay83 (F := Ideal) X Y M (ix2 0 p) = warp (fun a b => M (ix3 0 a b)) 0 (X (ix2 0 p)) (Y (ix2 0 p)) :=
  pay62_at X Y M p

theorem pay84_at (p : Fin 4800) : k0_pay84 (F := Ideal) X Y M (ix2 0 p) = warp (fun a b => M (ix3 0 a b)) 1 (X (ix2 0 p)) (Y (ix2 0 p)) :=
  pay63_at X Y M p

/-- The factor the warped points bring to the squared distance, entry by entry. -/
def geoR (wx wy : EReal) : Fin 4 → EReal :=
  ![Ideal.ofBits FTy.f32 3221225472#32 * wx, Ideal.ofBits FTy.f32 3221225472#32 * wy, 1, wx * wx + wy * wy]

/-- The factor the keypoint brings. -/
def geoL (gx gy : EReal) : Fin 4 → EReal := ![gx, gy, gx * gx + gy * gy, 1]

theorem pay90_at (wx wy : S1x4800.Idx → EReal) (q : Fin 4) (p : Fin 4800) :
    k0_pay90 (F := Ideal) wx wy (mulf (broadcast S1x4800 (Scalar.ofBits .f32 0xC0000000#32)) wx) k0_pay89 (ix2 q p) = geoR (wx (ix2 0 p)) (wy (ix2 0 p)) q := by
  unfold k0_pay90 k0_pay89 geoR
  dsimp only
  fin_cases q <;> pointwise <;> rfl

theorem geo_first (q : Fin 4) (p : Fin 4800) :
    k0_pay71 (F := Ideal) (k0_pay67 X Y M) (k0_pay68 X Y M) k0_pay69 (k0_pay70 X Y M) (ix2 q p)
      = geoR (warp (fun a b => M (ix3 0 a b)) 0 (X (ix2 0 p)) (Y (ix2 0 p))) (warp (fun a b => M (ix3 0 a b)) 1 (X (ix2 0 p)) (Y (ix2 0 p))) q := by
  rw [← pay62_at, ← pay63_at]
  exact pay90_at (k0_pay62 (F := Ideal) X Y M) (k0_pay63 (F := Ideal) X Y M) q p

theorem geo_second (q : Fin 4) (p : Fin 4800) :
    k0_pay90 (F := Ideal) (k0_pay83 X Y M) (k0_pay84 X Y M) (k0_pay88 X Y M) k0_pay89 (ix2 q p)
      = geoR (warp (fun a b => M (ix3 0 a b)) 0 (X (ix2 0 p)) (Y (ix2 0 p))) (warp (fun a b => M (ix3 0 a b)) 1 (X (ix2 0 p)) (Y (ix2 0 p))) q := by
  rw [← pay83_at, ← pay84_at]
  exact pay90_at (k0_pay83 (F := Ideal) X Y M) (k0_pay84 (F := Ideal) X Y M) q p

end Warp

theorem pay55_at (b : BitVec 32) (i : S512x1.Idx → BitVec 32) (u v : S512x1.Idx → EReal) (j : Fin 512) (q : Fin 4) :
    k0_pay55 (F := Ideal) b i u u v v (ix2 j q) = geoL (key (i (ix2 j 0) + b) (u (ix2 j 0))) (key (i (ix2 j 0) + b) (v (ix2 j 0))) q := by
  unfold k0_pay55 geoL key
  fin_cases q <;> pointwise <;> rfl

section Desc

variable (a b : S512x1.Idx → EReal) (z : EReal) (t0 t1 t2 t3 : S512x64.Idx → EReal)

theorem pay53_at (j : Fin 512) :
    k0_pay53 (F := Ideal) a b z t0 t1 t2 t3 (ix2 j 0) = ∑ e, k0_pay52 (F := Ideal) a b z t0 t1 t2 t3 (ix2 j e) * k0_pay52 (F := Ideal) a b z t0 t1 t2 t3 (ix2 j e) := by
  unfold k0_pay53
  generalize k0_pay52 (F := Ideal) a b z t0 t1 t2 t3 = D
  dsimp only
  pointwise

theorem pay54_at (j : Fin 512) (e : Fin 64) :
    k0_pay54 (F := Ideal) a b z t0 t1 t2 t3 (ix2 j e) = Ideal.ofBits FTy.f32 3221225472#32 * k0_pay52 (F := Ideal) a b z t0 t1 t2 t3 (ix2 j e) := by
  unfold k0_pay54
  generalize k0_pay52 (F := Ideal) a b z t0 t1 t2 t3 = D
  pointwise

end Desc

theorem pay64_at (x : S1x64x4800.Idx → EReal) (e : Fin 64) (p : Fin 4800) : k0_pay64 (F := Ideal) x (ix2 e p) = x (ix3 0 e p) := by
  unfold k0_pay64
  pointwise

theorem pay65_at (x : S1x64x4800.Idx → EReal) (p : Fin 4800) : k0_pay65 (F := Ideal) x (ix2 0 p) = ∑ e, x (ix3 0 e p) * x (ix3 0 e p) := by
  unfold k0_pay65 k0_pay64
  dsimp only
  pointwise

theorem pay66_at (x : S1x4800.Idx → EReal) (p : Fin 4800) : k0_pay66 (F := Ideal) x (ix2 0 p) = x (ix2 0 p) * Ideal.ofBits FTy.f32 1084227584#32 := by
  unfold k0_pay66
  pointwise

end Cert.Proof.KernelIdeal

end
-- ==== Proof.Ideal.Total.lean ====
/- What the body leaves in its second output: the sum of the two views' hinge losses over its keypoints. -/
module

public import proofs.«01_k».proof.Proof.Ideal.Out
public import proofs.«01_k».proof.Proof.Ideal.BlockSum
public import proofs.«01_k».proof.Proof.Ideal.Terms

@[expose] public section

set_option maxRecDepth 16384

noncomputable section

namespace Cert.Proof.KernelIdeal

open Cert.KernelIdeal Cert.KernelIdeal.Gen
open Idealize.ShloMosaic Idealize.ShloMosaic.TcCoe

/-- The eight blocks, one after another. -/
theorem chain {F : FTy → Type} [FloatOps F] (v67 : FVec F S512x1 .f32) (v69 : FVec F S512x64 .f32) (v89 : FVec F S512x4 .f32)
    (p d : FVec F S64x4800 .f32) (ps ds pm dm : FVec F S1x4800 .f32) (a1 a2 a3 a4 b1 b2 b3 b4 : FVec F S1x4800 .f32) :
    k0_pay1 (k0_pay96 dm
        (k0_pay93 v89 dm (k0_pay90 b1 b2 b3 b4)
          (k0_pay91 v67 v69 v89
            (k0_pay80
              (k0_pay78
                (k0_pay75 pm (k0_pay71 a1 a2 a3 a4) (k0_pay72 v67 v69 v89 p ps pm a1 a2 a3 a4) (k0_pay73 v67 v69 p ps) (k0_pay74 v89))
                (k0_pay76 v67 v69 v89 p ps pm (k0_pay71 a1 a2 a3 a4)) (k0_pay77 v67 v69 v89 p ps pm (k0_pay71 a1 a2 a3 a4)))
              (k0_pay79 v67 v69 v89 p ps pm (k0_pay71 a1 a2 a3 a4)))
            b1 b2 d ds dm b3 b4)
          (k0_pay92 v67 v69 d ds))
        (k0_pay94 v67 v69 d ds) (k0_pay95 v89 dm (k0_pay90 b1 b2 b3 b4)))
      (k0_pay97 v67 v69 v89 d ds dm (k0_pay90 b1 b2 b3 b4)) k0_pay98
    = shapeCast S1x8x128 (broadcast S8x128 (Scalar.addf (Scalar.addf (Scalar.addf (Scalar.addf (Scalar.addf (Scalar.addf (Scalar.addf (Scalar.addf (Scalar.ofBits .f32 0x00000000#32)
        (block 0 slices_S512x64_o0_0_S128x64 slices_S512x1_o0_0_S128x1 slices_S512x4_o0_0_S128x4 v67 v69 v89 p ps pm (k0_pay71 a1 a2 a3 a4)))
        (block 128 slices_S512x64_o128_0_S128x64 slices_S512x1_o128_0_S128x1 slices_S512x4_o128_0_S128x4 v67 v69 v89 p ps pm (k0_pay71 a1 a2 a3 a4)))
        (block 256 slices_S512x64_o256_0_S128x64 slices_S512x1_o256_0_S128x1 slices_S512x4_o256_0_S128x4 v67 v69 v89 p ps pm (k0_pay71 a1 a2 a3 a4)))
        (block 384 slices_S512x64_o384_0_S128x64 slices_S512x1_o384_0_S128x1 slices_S512x4_o384_0_S128x4 v67 v69 v89 p ps pm (k0_pay71 a1 a2 a3 a4)))
        (block 0 slices_S512x64_o0_0_S128x64 slices_S512x1_o0_0_S128x1 slices_S512x4_o0_0_S128x4 v67 v69 v89 d ds dm (k0_pay90 b1 b2 b3 b4)))
        (block 128 slices_S512x64_o128_0_S128x64 slices_S512x1_o128_0_S128x1 slices_S512x4_o128_0_S128x4 v67 v69 v89 d ds dm (k0_pay90 b1 b2 b3 b4)))
        (block 256 slices_S512x64_o256_0_S128x64 slices_S512x1_o256_0_S128x1 slices_S512x4_o256_0_S128x4 v67 v69 v89 d ds dm (k0_pay90 b1 b2 b3 b4)))
        (block 384 slices_S512x64_o384_0_S128x64 slices_S512x1_o384_0_S128x1 slices_S512x4_o384_0_S128x4 v67 v69 v89 d ds dm (k0_pay90 b1 b2 b3 b4)))) shapeCasts_S8x128_S1x8x128 := by
  rw [first0, first1, first2, first3, second0, second1, second2, second3]

/-- A sum over 512 keypoints is the sum over four runs of 128. -/
theorem sum_quarters (g : Fin 512 → EReal) :
    ∑ j, g j = (((∑ r : Fin 128, g ⟨0 + r.val, by omega⟩) + ∑ r : Fin 128, g ⟨128 + r.val, by omega⟩) + ∑ r : Fin 128, g ⟨256 + r.val, by omega⟩) + ∑ r : Fin 128, g ⟨384 + r.val, by omega⟩ := by
  have e : ∑ j, g j = (∑ r : Fin 128, g ⟨r.val, by omega⟩) + ((∑ r : Fin 128, g ⟨128 + r.val, by omega⟩) + ((∑ r : Fin 128, g ⟨128 + (128 + r.val), by omega⟩) + ∑ r : Fin 128, g ⟨128 + (128 + (128 + r.val)), by omega⟩)) := by
    refine (Fin.sum_univ_add (a := 128) (b := 384) g).trans (congrArg₂ (· + ·) rfl ?_)
    refine (Fin.sum_univ_add (a := 128) (b := 256) _).trans (congrArg₂ (· + ·) rfl ?_)
    exact Fin.sum_univ_add (a := 128) (b := 128) _
  rw [e, ← add_assoc, ← add_assoc]
  refine congrArg₂ (· + ·) (congrArg₂ (· + ·) (congrArg₂ (· + ·) ?_ rfl) ?_) ?_
  all_goals exact Finset.sum_congr rfl fun r _ => congrArg g (Fin.ext (by simp only []; omega))

section Total

variable (c : Dev nD) (i : grid0.Coords) (arg2 : Memref sig .tc .vmem S512x4 .f32) (harg2 : arg2.IsWhole) (arg3 : Memref sig .tc .vmem S2x64x4800 .f32) (harg3 : arg3.IsWhole) (arg4 : Memref sig .tc .vmem S2x64x4800 .f32) (harg4 : arg4.IsWhole) (arg5 : Memref sig .tc .vmem S2x4800 .f32) (harg5 : arg5.IsWhole) (arg6 : Memref sig .tc .vmem S2x3x3 .f32) (harg6 : arg6.IsWhole) (arg7 : Memref sig .tc .vmem S512x64 .f32) (harg7 : arg7.IsWhole) (arg8 : Memref sig .tc .vmem S1x8x128 .f32) (harg8 : arg8.IsWhole) (arg9 : Memref sig .tc .vmem S9600x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole)
    (x0 : Vec Ideal S512x4 .f32) (x1 : Vec Ideal S2x64x4800 .f32) (x2 : Vec Ideal S2x64x4800 .f32) (x3 : Vec Ideal S2x4800 .f32) (x4 : Vec Ideal S2x3x3 .f32) (xt0 : TbBuf0 (F := Ideal) c tbM0_0) (hT : ∀ x, BitVec.toNat (tbM0_0.view.read (Elt Ideal) xt0 x) < 9600)

/-- One keypoint's loss against one view, in the body's numbers: `D` its descriptor. -/
def lossOf (D : Fin 64 → EReal) (n : Fin 2) (j : Fin 512) : EReal :=
  rowBody (∑ e, D e * D e) (fun e => Ideal.ofBits FTy.f32 3221225472#32 * D e)
    (geoL (key (BitVec.ofNat 32 j.val + BitVec.ofNat 32 (i 0).val * 512#32) (x0 (ix2 j 3))) (key (BitVec.ofNat 32 j.val + BitVec.ofNat 32 (i 0).val * 512#32) (x0 (ix2 j 2))))
    (fun e p => x2 (ix3 n e p)) (fun p => ∑ e, x2 (ix3 n e p) * x2 (ix3 n e p)) (fun p => x3 (ix2 n p) * Ideal.ofBits FTy.f32 1084227584#32)
    (fun q p => geoR (warp (fun a b => x4 (ix3 n a b)) 0 (cellX p) (cellY p)) (warp (fun a b => x4 (ix3 n a b)) 1 (cellX p) (cellY p)) q)

/-- A slab of the views, the mask and the matrices. -/
theorem slab3 {d1 d2 : ℕ} {arg : Memref sig .tc .vmem ⟨3, ![2, d1, d2]⟩ .f32} (harg : arg.IsWhole) (x : Vec Ideal ⟨3, ![2, d1, d2]⟩ .f32) (n : Fin 2) (off : Fin 3 → ℕ) (ho : off = ![n.val, 0, 0])
    (h : ∀ a, off a + (⟨3, ![1, d1, d2]⟩ : Shape).size a ≤ (⟨3, ![2, d1, d2]⟩ : Shape).size a) (a : Fin d1) (b : Fin d2) :
    arg.view.readAt (Elt Ideal) (Rect.unit (s := ⟨3, ![2, d1, d2]⟩) off (⟨3, ![1, d1, d2]⟩ : Shape).size h).toLoadRect (harg.unread x) (ix3 0 a b) = x (ix3 n a b) := by
  subst ho
  refine (Memref.IsWhole.readAt_unread _ _ _ _).trans (congrArg x ?_)
  funext z; apply Fin.ext
  match z with
  | 0 => rfl
  | 1 => show 0 + 1 * a.val = a.val; omega
  | 2 => show 0 + 1 * b.val = b.val; omega

theorem slab2 (n : Fin 2) (off : Fin 2 → ℕ) (ho : off = ![n.val, 0]) (h : ∀ a, off a + S1x4800.size a ≤ S2x4800.size a) (p : Fin 4800) :
    arg5.view.readAt (Elt Ideal) (Rect.unit (s := S2x4800) off S1x4800.size h).toLoadRect (harg5.unread x3) (ix2 0 p) = x3 (ix2 n p) := by
  subst ho
  refine (Memref.IsWhole.readAt_unread _ _ _ _).trans (congrArg x3 ?_)
  funext z; apply Fin.ext
  match z with
  | 0 => rfl
  | 1 => show 0 + 1 * p.val = p.val; omega

theorem keySq (j : Fin 512) : kernelRun.sl.r_2 c i arg2 harg2 arg3 harg3 arg9 arg10 arg11 arg12 arg13 x0 x1 xt0 hT (ix2 j 0)
    = ∑ e, desc c i arg2 harg2 arg3 harg3 arg9 arg10 arg11 arg12 arg13 x0 x1 xt0 hT (ix2 j e) * desc c i arg2 harg2 arg3 harg3 arg9 arg10 arg11 arg12 arg13 x0 x1 xt0 hT (ix2 j e) := pay53_at _ _ _ _ _ _ _ j

theorem keyM2 (j : Fin 512) (e : Fin 64) : kernelRun.sl.r_3 c i arg2 harg2 arg3 harg3 arg9 arg10 arg11 arg12 arg13 x0 x1 xt0 hT (ix2 j e)
    = Ideal.ofBits FTy.f32 3221225472#32 * desc c i arg2 harg2 arg3 harg3 arg9 arg10 arg11 arg12 arg13 x0 x1 xt0 hT (ix2 j e) := pay54_at _ _ _ _ _ _ _ j e

theorem keyGeo (j : Fin 512) (q : Fin 4) : kernelRun.sl.r_4 c i arg2 harg2 x0 (ix2 j q)
    = geoL (key (BitVec.ofNat 32 j.val + BitVec.ofNat 32 (i 0).val * 512#32) (x0 (ix2 j 3))) (key (BitVec.ofNat 32 j.val + BitVec.ofNat 32 (i 0).val * 512#32) (x0 (ix2 j 2))) q := by
  refine (pay55_at _ _ _ _ j q).trans ?_
  rw [col_at arg2 harg2 x0 2 ![0, 2] rfl, col_at arg2 harg2 x0 3 ![0, 3] rfl]
  have e : kernelRun.sl.v70 (ix2 j 0) = BitVec.ofNat 32 j.val := by
    unfold kernelRun.sl.v70
    pointwise
  rw [e]
  rfl

/-- What the body knows of a keypoint and view 1. -/
theorem view0 (j : Fin 512) :
    rowBody (kernelRun.sl.r_2 c i arg2 harg2 arg3 harg3 arg9 arg10 arg11 arg12 arg13 x0 x1 xt0 hT (ix2 j 0)) (fun e => kernelRun.sl.r_3 c i arg2 harg2 arg3 harg3 arg9 arg10 arg11 arg12 arg13 x0 x1 xt0 hT (ix2 j e))
      (fun q => kernelRun.sl.r_4 c i arg2 harg2 x0 (ix2 j q)) (fun e p => kernelRun.sl.r_6 c arg4 harg4 x2 (ix2 e p))
      (fun p => kernelRun.sl.r_7 c arg4 harg4 x2 (ix2 0 p)) (fun p => kernelRun.sl.r_8 c arg5 harg5 x3 (ix2 0 p)) (fun q p => kernelRun.sl.r_12 c arg6 harg6 x4 (ix2 q p))
      = lossOf i x0 x2 x3 x4 (fun e => desc c i arg2 harg2 arg3 harg3 arg9 arg10 arg11 arg12 arg13 x0 x1 xt0 hT (ix2 j e)) 0 j := by
  have h1 := keySq c i arg2 harg2 arg3 harg3 arg9 arg10 arg11 arg12 arg13 x0 x1 xt0 hT j
  have h2 := keyM2 c i arg2 harg2 arg3 harg3 arg9 arg10 arg11 arg12 arg13 x0 x1 xt0 hT j
  have h3 := keyGeo c i arg2 harg2 x0 j
  have h4 : ∀ e p, kernelRun.sl.r_6 c arg4 harg4 x2 (ix2 e p) = x2 (ix3 0 e p) := fun e p => (pay64_at _ e p).trans (slab3 harg4 x2 0 _ rfl _ e p)
  have h5 : ∀ p, kernelRun.sl.r_7 c arg4 harg4 x2 (ix2 0 p) = ∑ e, x2 (ix3 0 e p) * x2 (ix3 0 e p) := fun p =>
    (pay65_at _ p).trans (Finset.sum_congr rfl fun e _ => congrArg (fun v : EReal => v * v) (slab3 harg4 x2 0 ![0, 0, 0] rfl _ e p))
  have h6 : ∀ p, kernelRun.sl.r_8 c arg5 harg5 x3 (ix2 0 p) = x3 (ix2 0 p) * Ideal.ofBits FTy.f32 1084227584#32 := fun p =>
    (pay66_at _ p).trans (congrArg (fun v : EReal => v * Ideal.ofBits FTy.f32 1084227584#32) (slab2 arg5 harg5 x3 0 ![0, 0] rfl _ p))
  have h7 : ∀ q p, kernelRun.sl.r_12 c arg6 harg6 x4 (ix2 q p) = geoR (warp (fun a b => x4 (ix3 0 a b)) 0 (cellX p) (cellY p)) (warp (fun a b => x4 (ix3 0 a b)) 1 (cellX p) (cellY p)) q := fun q p =>
    (geo_first _ _ _ q p).trans (by
      rw [pay58_at, pay59_at]
      exact congrArg (fun M => geoR (warp M 0 (cellX p) (cellY p)) (warp M 1 (cellX p) (cellY p)) q)
        (funext fun a => funext fun b => slab3 harg6 x4 0 ![0, 0, 0] rfl _ a b))
  unfold lossOf
  simp only [h1, h2, h3, h4, h5, h6, h7]

/-- What the body knows of a keypoint and view 2. -/
theorem view1 (j : Fin 512) :
    rowBody (kernelRun.sl.r_2 c i arg2 harg2 arg3 harg3 arg9 arg10 arg11 arg12 arg13 x0 x1 xt0 hT (ix2 j 0)) (fun e => kernelRun.sl.r_3 c i arg2 harg2 arg3 harg3 arg9 arg10 arg11 arg12 arg13 x0 x1 xt0 hT (ix2 j e))
      (fun q => kernelRun.sl.r_4 c i arg2 harg2 x0 (ix2 j q)) (fun e p => kernelRun.sl.r_24 c arg4 harg4 x2 (ix2 e p))
      (fun p => kernelRun.sl.r_25 c arg4 harg4 x2 (ix2 0 p)) (fun p => kernelRun.sl.r_26 c arg5 harg5 x3 (ix2 0 p)) (fun q p => kernelRun.sl.r_28 c arg6 harg6 x4 (ix2 q p))
      = lossOf i x0 x2 x3 x4 (fun e => desc c i arg2 harg2 arg3 harg3 arg9 arg10 arg11 arg12 arg13 x0 x1 xt0 hT (ix2 j e)) 1 j := by
  have h1 := keySq c i arg2 harg2 arg3 harg3 arg9 arg10 arg11 arg12 arg13 x0 x1 xt0 hT j
  have h2 := keyM2 c i arg2 harg2 arg3 harg3 arg9 arg10 arg11 arg12 arg13 x0 x1 xt0 hT j
  have h3 := keyGeo c i arg2 harg2 x0 j
  have h4 : ∀ e p, kernelRun.sl.r_24 c arg4 harg4 x2 (ix2 e p) = x2 (ix3 1 e p) := fun e p => (pay64_at _ e p).trans (slab3 harg4 x2 1 _ rfl _ e p)
  have h5 : ∀ p, kernelRun.sl.r_25 c arg4 harg4 x2 (ix2 0 p) = ∑ e, x2 (ix3 1 e p) * x2 (ix3 1 e p) := fun p =>
    (pay65_at _ p).trans (Finset.sum_congr rfl fun e _ => congrArg (fun v : EReal => v * v) (slab3 harg4 x2 1 ![1, 0, 0] rfl _ e p))
  have h6 : ∀ p, kernelRun.sl.r_26 c arg5 harg5 x3 (ix2 0 p) = x3 (ix2 1 p) * Ideal.ofBits FTy.f32 1084227584#32 := fun p =>
    (pay66_at _ p).trans (congrArg (fun v : EReal => v * Ideal.ofBits FTy.f32 1084227584#32) (slab2 arg5 harg5 x3 1 ![1, 0] rfl _ p))
  have h7 : ∀ q p, kernelRun.sl.r_28 c arg6 harg6 x4 (ix2 q p) = geoR (warp (fun a b => x4 (ix3 1 a b)) 0 (cellX p) (cellY p)) (warp (fun a b => x4 (ix3 1 a b)) 1 (cellX p) (cellY p)) q := fun q p =>
    (geo_second _ _ _ q p).trans (by
      rw [pay58_at, pay59_at]
      exact congrArg (fun M => geoR (warp M 0 (cellX p) (cellY p)) (warp M 1 (cellX p) (cellY p)) q)
        (funext fun a => funext fun b => slab3 harg6 x4 1 ![1, 0, 0] rfl _ a b))
  unfold lossOf
  simp only [h1, h2, h3, h4, h5, h6, h7]

/-- The sum in every entry of the second output. -/
theorem out6_at (a : Fin 8) (b : Fin 128) :
    out0_6 (F := Ideal) c i arg2 harg2 arg3 harg3 arg4 harg4 arg5 harg5 arg6 harg6 arg7 harg7 arg8 harg8 arg9 harg9 arg10 harg10 arg11 harg11 arg12 harg12 arg13 harg13 x0 x1 x2 x3 x4 xt0 hT (ix3 0 a b)
      = (∑ j, lossOf i x0 x2 x3 x4 (fun e => desc c i arg2 harg2 arg3 harg3 arg9 arg10 arg11 arg12 arg13 x0 x1 xt0 hT (ix2 j e)) 0 j) + ∑ j, lossOf i x0 x2 x3 x4 (fun e => desc c i arg2 harg2 arg3 harg3 arg9 arg10 arg11 arg12 arg13 x0 x1 xt0 hT (ix2 j e)) 1 j := by
  unfold out0_6 kernelRun
  dsimp only
  refine (congrFun (View.read_writes_full _ _ _ _ _) _).trans ?_
  refine (congrFun (chain (kernelRun.sl.r_2 c i arg2 harg2 arg3 harg3 arg9 arg10 arg11 arg12 arg13 x0 x1 xt0 hT) (kernelRun.sl.r_3 c i arg2 harg2 arg3 harg3 arg9 arg10 arg11 arg12 arg13 x0 x1 xt0 hT) (kernelRun.sl.r_4 c i arg2 harg2 x0)
    (kernelRun.sl.r_6 c arg4 harg4 x2) (kernelRun.sl.r_24 c arg4 harg4 x2) (kernelRun.sl.r_7 c arg4 harg4 x2) (kernelRun.sl.r_25 c arg4 harg4 x2) (kernelRun.sl.r_8 c arg5 harg5 x3) (kernelRun.sl.r_26 c arg5 harg5 x3)
    (kernelRun.sl.r_9 c arg6 harg6 x4) (kernelRun.sl.r_10 c arg6 harg6 x4) k0_pay69 (kernelRun.sl.r_11 c arg6 harg6 x4)
    (kernelRun.sl.r_22 c arg6 harg6 x4) (kernelRun.sl.r_23 c arg6 harg6 x4) (kernelRun.sl.r_27 c arg6 harg6 x4) k0_pay89) _).trans ?_
  have e0 : k0_pay71 (kernelRun.sl.r_9 c arg6 harg6 x4) (kernelRun.sl.r_10 c arg6 harg6 x4) k0_pay69 (kernelRun.sl.r_11 c arg6 harg6 x4) = kernelRun.sl.r_12 c arg6 harg6 x4 := rfl
  have e1 : k0_pay90 (kernelRun.sl.r_22 c arg6 harg6 x4) (kernelRun.sl.r_23 c arg6 harg6 x4) (kernelRun.sl.r_27 c arg6 harg6 x4) k0_pay89 = kernelRun.sl.r_28 c arg6 harg6 x4 := rfl
  rw [e0, e1, block_eq 0 (by decide), block_eq 128 (by decide), block_eq 256 (by decide), block_eq 384 (by decide),
    block_eq 0 (by decide), block_eq 128 (by decide), block_eq 256 (by decide), block_eq 384 (by decide)]
  simp only [view0, view1]
  rw [sum_quarters, sum_quarters fun j => lossOf i x0 x2 x3 x4 (fun e => desc c i arg2 harg2 arg3 harg3 arg9 arg10 arg11 arg12 arg13 x0 x1 xt0 hT (ix2 j e)) 1 j]
  generalize lossOf i x0 x2 x3 x4 = L
  pointwise
  simp only [add_assoc]

end Total

end Cert.Proof.KernelIdeal

end
-- ==== Proof.Consts.lean ====
/- The numbers the literals of the two programs stand for. -/
module

public import Idealize.ShloMosaic.Lib.Pointwise

@[expose] public section

noncomputable section

namespace Cert.Proof

open Idealize.ShloMosaic

theorem lit_neg_two : Ideal.ofBits FTy.f32 3221225472#32 = ((-2 : ℝ) : EReal) := by
  simp [Ideal.ofBits, Ideal.ieee, -EReal.coe_mul]; norm_num

theorem lit_two : Ideal.ofBits FTy.f32 1073741824#32 = ((2 : ℝ) : EReal) := by
  simp [Ideal.ofBits, Ideal.ieee, -EReal.coe_mul]; norm_num

theorem lit_five : Ideal.ofBits FTy.f32 1084227584#32 = ((5 : ℝ) : EReal) := by
  simp [Ideal.ofBits, Ideal.ieee, -EReal.coe_mul]; norm_num

theorem lit_reach_sq : Ideal.ofBits FTy.f32 1113653248#32 = ((56.25 : ℝ) : EReal) := by
  simp [Ideal.ofBits, Ideal.ieee, -EReal.coe_mul]; norm_num

theorem lit_reach : Ideal.ofBits FTy.f32 1089470464#32 = ((7.5 : ℝ) : EReal) := by
  simp [Ideal.ofBits, Ideal.ieee, -EReal.coe_mul]; norm_num

theorem lit_eight : Ideal.ofBits FTy.f32 1090519040#32 = ((8 : ℝ) : EReal) := by
  simp [Ideal.ofBits, Ideal.ieee, -EReal.coe_mul]; norm_num

theorem lit_four : Ideal.ofBits FTy.f32 1082130432#32 = ((4 : ℝ) : EReal) := by
  simp [Ideal.ofBits, Ideal.ieee, -EReal.coe_mul]; norm_num

theorem lit_half : Ideal.ofBits FTy.f32 1056964608#32 = ((1 / 2 : ℝ) : EReal) := by
  simp [Ideal.ofBits, Ideal.ieee, -EReal.coe_mul]; norm_num

theorem lit_eighty : Ideal.ofBits FTy.f32 1117782016#32 = ((80 : ℝ) : EReal) := by
  simp [Ideal.ofBits, Ideal.ieee, -EReal.coe_mul]; norm_num

theorem lit_last_col : Ideal.ofBits FTy.f32 1117650944#32 = ((79 : ℝ) : EReal) := by
  simp [Ideal.ofBits, Ideal.ieee, -EReal.coe_mul]; norm_num

theorem lit_last_row : Ideal.ofBits FTy.f32 1114374144#32 = ((59 : ℝ) : EReal) := by
  simp [Ideal.ofBits, Ideal.ieee, -EReal.coe_mul]; norm_num

theorem lit_count : Ideal.ofBits FTy.f32 1157627904#32 = ((2048 : ℝ) : EReal) := by
  simp [Ideal.ofBits, Ideal.ieee, -EReal.coe_mul]; norm_num

theorem lit_share : Ideal.ofBits FTy.f32 973078528#32 = ((1 / 2048 : ℝ) : EReal) := by
  simp [Ideal.ofBits, Ideal.ieee, -EReal.coe_mul]; norm_num

end Cert.Proof

end
-- ==== Proof.Row.lean ====
/- One keypoint's loss against one view: what the body computes is the hinge loss, where everything is finite. -/
module

public import proofs.«01_k».proof.Proof.Consts
public import proofs.«01_k».proof.Proof.Ideal.BlockSum
public import proofs.«01_k».proof.Proof.Ideal.Terms

@[expose] public section

noncomputable section

namespace Cert.Proof

open Idealize.ShloMosaic Cert.Proof.KernelIdeal

/-- A sum of reals is the reals' sum. -/
theorem sum_coe {n : ℕ} (f : Fin n → ℝ) : ∑ e, ((f e : ℝ) : EReal) = ((∑ e, f e : ℝ) : EReal) := by
  induction (Finset.univ : Finset (Fin n)) using Finset.induction_on with
  | empty => simp
  | insert a s h ih => rw [Finset.sum_insert h, Finset.sum_insert h, ih, EReal.coe_add]

/-- The distance, as the body expands it. -/
theorem dist_eq (D d : Fin 64 → ℝ) :
    Ideal.sqrt (max (∑ e, (D e : EReal) * D e + ∑ e, (d e : EReal) * d e + ∑ e, Ideal.ofBits FTy.f32 3221225472#32 * (D e : EReal) * d e) (Ideal.ofBits FTy.f32 730643660#32))
      = dist (fun e => (D e : EReal)) (fun e => (d e : EReal)) := by
  unfold dist
  rw [lit_neg_two, lit_two]
  simp only [← EReal.coe_mul, sum_coe, ← EReal.coe_add, ← EReal.coe_sub]
  have h : ∑ e, -2 * D e * d e = - (2 * ∑ e, d e * D e) := by
    rw [Finset.mul_sum, ← Finset.sum_neg_distrib]
    exact Finset.sum_congr rfl fun e _ => by ring
  rw [h, ← sub_eq_add_neg]

/-- The squared distance in the plane, as the body expands it, is in reach when the distance is. -/
theorem near_iff (a b u w : ℝ) :
    (∑ q, geoL (a : EReal) b q * geoR (u : EReal) w q ≤ Ideal.ofBits FTy.f32 1113653248#32)
      ↔ Ideal.sqrt (((a : EReal) - u) * (a - u) + ((b : EReal) - w) * (b - w)) ≤ Ideal.ofBits FTy.f32 1089470464#32 := by
  rw [Fin.sum_univ_four]
  have e : geoL (a : EReal) b 0 * geoR (u : EReal) w 0 + geoL (a : EReal) b 1 * geoR (u : EReal) w 1 + geoL (a : EReal) b 2 * geoR (u : EReal) w 2 + geoL (a : EReal) b 3 * geoR (u : EReal) w 3
      = (((a - u) * (a - u) + (b - w) * (b - w) : ℝ) : EReal) := by
    show (a : EReal) * (Ideal.ofBits FTy.f32 3221225472#32 * u) + (b : EReal) * (Ideal.ofBits FTy.f32 3221225472#32 * w) + ((a : EReal) * a + (b : EReal) * b) * 1 + 1 * ((u : EReal) * u + (w : EReal) * w) = _
    rw [lit_neg_two, mul_one, one_mul]
    simp only [← EReal.coe_mul, ← EReal.coe_add]
    congr 1
    ring
  rw [e, lit_reach_sq, lit_reach, EReal.coe_le_coe_iff]
  simp only [← EReal.coe_mul, ← EReal.coe_add, ← EReal.coe_sub]
  rw [Ideal.sqrt_coe, if_neg (not_lt.mpr (add_nonneg (mul_self_nonneg _) (mul_self_nonneg _))), EReal.coe_le_coe_iff, Real.sqrt_le_iff]
  constructor
  · intro h
    exact ⟨by norm_num, by norm_num; linarith⟩
  · rintro ⟨-, h⟩
    norm_num at h
    linarith

/-- The body's hinge loss is the hinge loss. -/
theorem rowBody_eq (D : Fin 64 → ℝ) (a b : ℝ) (d : Fin 64 → Fin 4800 → ℝ) (v : Fin 4800 → EReal) (hv : ∀ p, Bit (v p)) (u w : Fin 4800 → ℝ) :
    rowBody (∑ e, (D e : EReal) * D e) (fun e => Ideal.ofBits FTy.f32 3221225472#32 * (D e : EReal)) (geoL (a : EReal) b) (fun e p => (d e p : EReal))
        (fun p => ∑ e, (d e p : EReal) * d e p) (fun p => v p * Ideal.ofBits FTy.f32 1084227584#32) (fun q p => geoR (u p : EReal) (w p) q)
      = rowLoss (fun e => (D e : EReal)) a b (fun e p => (d e p : EReal)) v (fun p => (u p : EReal)) (fun p => (w p : EReal)) := by
  unfold rowBody rowLoss
  have h1 : ∀ p, Ideal.sqrt (max (∑ e, (D e : EReal) * D e + ∑ e, (d e p : EReal) * d e p + ∑ e, Ideal.ofBits FTy.f32 3221225472#32 * (D e : EReal) * (d e p : EReal)) (Ideal.ofBits FTy.f32 730643660#32))
      = dist (fun e => (D e : EReal)) (fun e => (d e p : EReal)) := fun p => dist_eq D fun e => d e p
  simp only [h1, near_iff]
  have key : ∀ p, ((dist (fun e => (D e : EReal)) (fun e => (d e p : EReal))
        + if Ideal.sqrt (((a : EReal) - u p) * (a - u p) + ((b : EReal) - w p) * (b - w p)) ≤ Ideal.ofBits FTy.f32 1089470464#32 then v p * Ideal.ofBits FTy.f32 1084227584#32 else 0)
        - v p * Ideal.ofBits FTy.f32 1084227584#32
        = dist (fun e => (D e : EReal)) (fun e => (d e p : EReal)) - (1 - near a b (u p) (w p)) * v p * Ideal.ofBits FTy.f32 1084227584#32)
      ∧ (dist (fun e => (D e : EReal)) (fun e => (d e p : EReal))
        + if Ideal.sqrt (((a : EReal) - u p) * (a - u p) + ((b : EReal) - w p) * (b - w p)) ≤ Ideal.ofBits FTy.f32 1089470464#32 then v p * Ideal.ofBits FTy.f32 1084227584#32 else 0)
        = dist (fun e => (D e : EReal)) (fun e => (d e p : EReal)) + near a b (u p) (w p) * v p * Ideal.ofBits FTy.f32 1084227584#32 := by
    intro p
    generalize dist (fun e => (D e : EReal)) (fun e => (d e p : EReal)) = x
    unfold near
    by_cases c : Ideal.sqrt (((a : EReal) - u p) * (a - u p) + ((b : EReal) - w p) * (b - w p)) ≤ Ideal.ofBits FTy.f32 1089470464#32
    · have e1 : FloatOps.uitofp (F := Ideal) .f32 (BitVec.ofBool (decide (Ideal.sqrt (((a : EReal) - u p) * (a - u p) + ((b : EReal) - w p) * (b - w p)) ≤ Ideal.ofBits FTy.f32 1089470464#32))) = (1 : EReal) := by
        rw [decide_eq_true c]; show (((1#1).toNat : ℝ) : EReal) = 1; simp
      rw [e1, if_pos c]
      have e2 : (1 : EReal) - 1 = 0 := by rw [← EReal.coe_one, ← EReal.coe_sub, sub_self, EReal.coe_zero]
      rw [e2, zero_mul, zero_mul, one_mul, lit_five]
      refine ⟨?_, rfl⟩
      rcases hv p with h | h <;> rw [h]
      · simp
      · rw [one_mul, sub_zero, EReal.add_sub_cancel_right]
    · have e1 : FloatOps.uitofp (F := Ideal) .f32 (BitVec.ofBool (decide (Ideal.sqrt (((a : EReal) - u p) * (a - u p) + ((b : EReal) - w p) * (b - w p)) ≤ Ideal.ofBits FTy.f32 1089470464#32))) = (0 : EReal) := by
        rw [decide_eq_false c]; show (((0#1).toNat : ℝ) : EReal) = 0; simp
      rw [e1, if_neg c, sub_zero, one_mul, zero_mul, zero_mul, add_zero]
      exact ⟨rfl, rfl⟩
  simp only [(key _).1]
  simp only [(key _).2]

end Cert.Proof

end
-- ==== Proof.Range.lean ====
/- The first precondition, decoded: it says of every keypoint that its four taps lie in the map. -/
module

public import proofs.«01_k».proof.Proof.Sample
public import proofs.«01_k».proof.Proof.Gen.Pre_taps_in_map
public import Idealize.ShloMosaic.Lib.Pointwise

@[expose] public section

noncomputable section

namespace Cert.Proof

open Idealize.ShloMosaic

variable {F : FTy → Type} [FloatOps F]

/-- The conjunction of two bits. -/
theorem and_bits (p q : Bool) : IntOp.andi (BitVec.ofBool p) (BitVec.ofBool q) = BitVec.ofBool (p && q) := by
  cases p <;> cases q <;> decide

/-- A bit is one when what it says is so. -/
theorem bit_one (p : Bool) : (BitVec.ofBool p = 1#1) ↔ p = true := by cases p <;> decide

/-- A word between zero and a small bound, as the signed comparisons have it. -/
theorem word_range {w : BitVec 32} {n : ℕ} (hn : n < 2147483648) (h0 : (0#32).sle w = true)
    (h1 : w.slt (BitVec.ofNat 32 n) = true) : w.toNat < n := by
  simp only [BitVec.sle, BitVec.slt, decide_eq_true_eq, BitVec.toInt, BitVec.toNat_ofNat] at h0 h1
  omega

set_option maxHeartbeats 1600000 in
/-- Every keypoint's taps lie in the map where the precondition's bits are ones. -/
theorem inRange_of_bits (a0 : FVec F Pre_taps_in_map.S1024x4 .f32) (a1 a2 a3 a4)
    (h : Cert.Pre_taps_in_map.fn (F := F) a0 a1 a2 a3 a4 = fun _ => 1#1) (k : Fin 1024) :
    InRange (a0 (ix2 k 0)) (a0 (ix2 k 2)) (a0 (ix2 k 3)) := by
  have e := congrFun h (ix1 k)
  unfold Pre_taps_in_map.fn Pre_taps_in_map.fn_part1 Pre_taps_in_map.fn_part2 Pre_taps_in_map.fn_part3
    Pre_taps_in_map.fn_clip at e
  revert e
  pointwise
  intro e
  simp only [IntOp.cmpi, and_bits, bit_one, Bool.and_eq_true] at e
  obtain ⟨⟨⟨⟨⟨⟨⟨⟨⟨b0, b1⟩, x0⟩, x1⟩, y0⟩, y1⟩, X0⟩, X1⟩, Y0⟩, Y1⟩ := e
  refine ⟨word_range (n := 2) (by decide) b0 b1, fun t => ?_, fun t => ?_⟩
  · unfold tapRow
    split
    · exact word_range (n := 60) (by decide) y0 y1
    · exact word_range (n := 60) (by decide) Y0 Y1
  · unfold tapCol
    split
    · exact word_range (n := 80) (by decide) x0 x1
    · exact word_range (n := 80) (by decide) X0 X1

end Cert.Proof

end
-- ==== Proof.Reals.lean ====
/- What is finite stays finite: the taps' coordinates, the descriptors, the keypoints and the warped cells, when
   what they are made of is. -/
module

public import proofs.«01_k».proof.Proof.Consts
public import proofs.«01_k».proof.Proof.Ideal.Terms

@[expose] public section

noncomputable section

namespace Cert.Proof

open Idealize.ShloMosaic

/-- A number that is neither infinity. -/
def Finite (x : EReal) : Prop := ∃ r : ℝ, x = r

theorem Finite.add {x y : EReal} (hx : Finite x) (hy : Finite y) : Finite (x + y) := by
  obtain ⟨r, rfl⟩ := hx; obtain ⟨s, rfl⟩ := hy; exact ⟨r + s, (EReal.coe_add r s).symm⟩

theorem Finite.sub {x y : EReal} (hx : Finite x) (hy : Finite y) : Finite (x - y) := by
  obtain ⟨r, rfl⟩ := hx; obtain ⟨s, rfl⟩ := hy; exact ⟨r - s, (EReal.coe_sub r s).symm⟩

theorem Finite.mul {x y : EReal} (hx : Finite x) (hy : Finite y) : Finite (x * y) := by
  obtain ⟨r, rfl⟩ := hx; obtain ⟨s, rfl⟩ := hy; exact ⟨r * s, (EReal.coe_mul r s).symm⟩

theorem Finite.div {x y : EReal} (hx : Finite x) (hy : Finite y) (h : y ≠ 0) : Finite (Ideal.div x y) := by
  obtain ⟨s, rfl⟩ := hy
  rw [Ideal.div_coe (fun e => h (by rw [e, EReal.coe_zero]))]
  exact hx.mul ⟨_, rfl⟩

theorem Finite.one : Finite 1 := ⟨1, rfl⟩

/-- The number of a word below half the words, read signed. -/
theorem sitofp_ofNat (p : ℕ) (h : p < 2147483648) : FloatOps.sitofp (F := Ideal) .f32 (BitVec.ofNat 32 p) = ((p : ℝ) : EReal) := by
  show (((BitVec.ofNat 32 p).toInt : ℝ) : EReal) = _
  rw [BitVec.toInt_eq_toNat_of_lt (by rw [BitVec.toNat_ofNat]; omega), BitVec.toNat_ofNat, Nat.mod_eq_of_lt (by omega)]
  rfl

/-- A cell's centre is the number it reads. -/
theorem centre_eq (p : ℕ) (h : p < 2147483648) : centre p = ((p * 8 + 4 : ℝ) : EReal) := by
  unfold centre
  rw [sitofp_ofNat p h, lit_eight, lit_four, ← EReal.coe_mul, ← EReal.coe_add]

/-- The row of a cell, found by rounding down the cell's number and a half, in rows. -/
theorem cellRow_eq (p : Fin 4800) : KernelIdeal.cellRow p = (((p.val / 80 : ℕ) : ℝ) : EReal) := by
  have hp := p.isLt
  unfold KernelIdeal.cellRow
  rw [sitofp_ofNat p.val (by omega), lit_half, lit_eighty, ← EReal.coe_add, Ideal.div_coe (by norm_num), ← EReal.coe_mul, Ideal.hostUnary_floor_def, Ideal.liftRound_coe]
  congr 1
  have e : (p.val : ℝ) = 80 * ((p.val / 80 : ℕ) : ℝ) + ((p.val % 80 : ℕ) : ℝ) := by exact_mod_cast (Nat.div_add_mod p.val 80).symm
  have l : ((p.val % 80 : ℕ) : ℝ) ≤ 79 := by exact_mod_cast (by omega : p.val % 80 ≤ 79)
  have l0 : (0 : ℝ) ≤ ((p.val % 80 : ℕ) : ℝ) := Nat.cast_nonneg _
  have f : ⌊((p.val : ℝ) + 1 / 2) * (1 / 80)⌋ = ((p.val / 80 : ℕ) : ℤ) := by
    rw [Int.floor_eq_iff]
    refine ⟨?_, ?_⟩
    · rw [Int.cast_natCast]; linarith
    · rw [Int.cast_natCast]; linarith
  rw [f, Int.cast_natCast]

theorem cellY_eq (p : Fin 4800) : KernelIdeal.cellY p = centre (p.val / 80) := by
  have hp := p.isLt
  unfold KernelIdeal.cellY
  rw [cellRow_eq, centre_eq _ (by omega), lit_eight, lit_four, ← EReal.coe_mul, ← EReal.coe_add]

theorem cellX_eq (p : Fin 4800) : KernelIdeal.cellX p = centre (p.val % 80) := by
  have hp := p.isLt
  unfold KernelIdeal.cellX
  rw [cellRow_eq, centre_eq _ (by omega), sitofp_ofNat p.val (by omega), lit_eight, lit_four, lit_eighty, ← EReal.coe_mul, ← EReal.coe_sub, ← EReal.coe_mul, ← EReal.coe_add]
  congr 1
  have e : (p.val : ℝ) = 80 * ((p.val / 80 : ℕ) : ℝ) + ((p.val % 80 : ℕ) : ℝ) := by exact_mod_cast (Nat.div_add_mod p.val 80).symm
  linarith

/-- The word of a number between zero and a bound is below the bound. -/
theorem fptosi_lt {r : ℝ} {n : ℕ} (h0 : 0 ≤ r) (h1 : r < n) (hn : n ≤ 2147483648) : (Ideal.fptosi 32 (r : EReal)).toNat < n := by
  unfold Ideal.fptosi
  rw [Ideal.toIntClamped_coe, if_pos h0]
  have a : 0 ≤ ⌊r⌋ := Int.floor_nonneg.mpr h0
  have b : ⌊r⌋ < n := Int.floor_lt.mpr (by exact_mod_cast h1)
  have c : max (-((2 ^ (32 - 1) : ℕ) : ℤ)) (min (((2 ^ (32 - 1) : ℕ) : ℤ) - 1) ⌊r⌋) = ⌊r⌋ := by omega
  rw [c, BitVec.toNat_ofInt]
  omega

/-- A coordinate clamped to a map's side, of a number, is a number from zero to the side. -/
theorem grid_coe (s x : ℝ) (hs : 0 ≤ s) (l : EReal) (hl : l = (s : EReal)) :
    ∃ g : ℝ, min l (max (Ideal.ofBits FTy.f32 0#32) (Ideal.div (x : EReal) (Ideal.ofBits FTy.f32 1090519040#32))) = (g : EReal) ∧ 0 ≤ g ∧ g ≤ s := by
  subst hl
  refine ⟨min s (max 0 (x * (1 / 8))), ?_, le_min hs (le_max_left _ _), min_le_left _ _⟩
  rw [lit_eight, Ideal.div_coe (by norm_num), ← EReal.coe_mul]
  have z : Ideal.ofBits FTy.f32 0#32 = ((0 : ℝ) : EReal) := by simp [Ideal.ofBits, Ideal.ieee]
  rw [z, ← EReal.coe_strictMono.monotone.map_max, ← EReal.coe_strictMono.monotone.map_min]

/-- The lower of a clamped coordinate's two taps is within the side. -/
theorem lo_lt {g : ℝ} {n : ℕ} (h0 : 0 ≤ g) (h1 : g < n) (hn : n ≤ 2147483648) :
    (FloatOps.fptosi (F := Ideal) (φ := .f32) 32 (FloatOps.hostUnary (F := Ideal) (φ := .f32) .floor (g : EReal))).toNat < n := by
  rw [Ideal.hostUnary_floor_def, Ideal.liftRound_coe]
  exact fptosi_lt (by exact_mod_cast Int.floor_nonneg.mpr h0) (lt_of_le_of_lt (Int.floor_le g) h1) hn

/-- And so is the upper. -/
theorem hi_lt {g s : ℝ} {n : ℕ} (h0 : 0 ≤ g) (l : EReal) (hl : l = (s : EReal)) (hs : 0 ≤ s) (h1 : s < n) (hn : n ≤ 2147483648) :
    (Ideal.fptosi 32 (min (FloatOps.hostUnary (F := Ideal) (φ := .f32) .floor (g : EReal) + Ideal.ofBits FTy.f32 1065353216#32) l)).toNat < n := by
  subst hl
  have o : Ideal.ofBits FTy.f32 1065353216#32 = ((1 : ℝ) : EReal) := by simp [Ideal.ofBits, Ideal.ieee, -EReal.coe_mul]; norm_num
  rw [Ideal.hostUnary_floor_def, Ideal.liftRound_coe, o, ← EReal.coe_add, ← EReal.coe_strictMono.monotone.map_min]
  have f : (0 : ℝ) ≤ ⌊g⌋ := by exact_mod_cast Int.floor_nonneg.mpr h0
  exact fptosi_lt (le_min (by linarith) hs) (lt_of_le_of_lt (min_le_right _ _) h1) hn

theorem gridX_coe (x : ℝ) : ∃ g : ℝ, gridX (F := Ideal) (x : EReal) = (g : EReal) ∧ 0 ≤ g ∧ g ≤ 79 :=
  grid_coe 79 x (by norm_num) _ lit_last_col

theorem gridY_coe (y : ℝ) : ∃ g : ℝ, gridY (F := Ideal) (y : EReal) = (g : EReal) ∧ 0 ≤ g ∧ g ≤ 59 :=
  grid_coe 59 y (by norm_num) _ lit_last_row

/-- The taps of a keypoint with finite coordinates lie in the map. -/
theorem inRange_of_finite {b x y : EReal} (hb : (entry (F := Ideal) b).toNat < 2) (hy : Finite y) (hx : Finite x) : InRange (F := Ideal) b y x := by
  obtain ⟨x, rfl⟩ := hx
  obtain ⟨y, rfl⟩ := hy
  obtain ⟨g, eg, g0, g1⟩ := gridX_coe x
  obtain ⟨f, ef, f0, f1⟩ := gridY_coe y
  refine ⟨hb, fun t => ?_, fun t => ?_⟩
  · unfold tapRow rowLo rowHi
    rw [ef]
    split
    · exact lo_lt f0 (by norm_num; linarith) (by norm_num)
    · exact hi_lt (s := 59) f0 _ lit_last_row (by norm_num) (by norm_num) (by norm_num)
  · unfold tapCol colLo colHi
    rw [eg]
    split
    · exact lo_lt g0 (by norm_num; linarith) (by norm_num)
    · exact hi_lt (s := 79) g0 _ lit_last_col (by norm_num) (by norm_num) (by norm_num)

theorem Finite.floor {g : ℝ} : Finite (FloatOps.hostUnary (F := Ideal) (φ := .f32) .floor (g : EReal)) := by
  rw [Ideal.hostUnary_floor_def, Ideal.liftRound_coe]; exact ⟨_, rfl⟩

theorem Finite.fracX {x : EReal} (hx : Finite x) : Finite (fracX x) := by
  obtain ⟨x, rfl⟩ := hx
  obtain ⟨g, eg, -, -⟩ := gridX_coe x
  unfold Proof.fracX
  rw [eg]
  exact Finite.sub ⟨g, rfl⟩ Finite.floor

theorem Finite.fracY {y : EReal} (hy : Finite y) : Finite (fracY y) := by
  obtain ⟨y, rfl⟩ := hy
  obtain ⟨g, eg, -, -⟩ := gridY_coe y
  unfold Proof.fracY
  rw [eg]
  exact Finite.sub ⟨g, rfl⟩ Finite.floor

theorem Finite.mean {y x : EReal} {g : Fin 4 → EReal} (hy : Finite y) (hx : Finite x) (hg : ∀ t, Finite (g t)) : Finite (mean y x g) :=
  (((Finite.one.sub hy.fracY).mul (((Finite.one.sub hx.fracX).mul (hg 0)).add (hx.fracX.mul (hg 1))))).add
    (hy.fracY.mul (((Finite.one.sub hx.fracX).mul (hg 2)).add (hx.fracX.mul (hg 3))))

theorem Finite.sample {kp : (⟨2, ![1024, 4]⟩ : Shape).Idx → EReal} {d : (⟨4, ![2, 64, 60, 80]⟩ : Shape).Idx → EReal} {k : Fin 1024}
    (hy : Finite (kp (ix2 k 2))) (hx : Finite (kp (ix2 k 3))) (hd : ∀ n e y x, Finite (d (ix4 n e y x))) (c : Fin 64) : Finite (sample kp d k c) :=
  hy.mean hx fun _ => hd _ _ _ _

theorem Finite.key {w : BitVec 32} {v : EReal} (h : Finite v) : Finite (key w v) := by
  unfold Proof.key Scalar.select
  split
  · rw [lit_eight]; exact h.div ⟨8, rfl⟩ (by exact_mod_cast (by norm_num : (8 : ℝ) ≠ 0))
  · exact h

theorem Finite.warp {H : Fin 3 → Fin 3 → EReal} {e : Fin 3} {x y : EReal} (hH : ∀ a b, Finite (H a b)) (hx : Finite x) (hy : Finite y)
    (h : H 2 0 * x + H 2 1 * y + H 2 2 ≠ 0) : Finite (warp H e x y) :=
  Finite.div ((((hH e 0).mul hx).add ((hH e 1).mul hy)).add (hH e 2)) ((((hH 2 0).mul hx).add ((hH 2 1).mul hy)).add (hH 2 2)) h

theorem Finite.centre {p : ℕ} (h : p < 2147483648) : Finite (centre p) := ⟨_, centre_eq p h⟩

end Cert.Proof

end
-- ==== Proof.Views.lean ====
/- What the finite views' precondition says, in plain facts. -/
module

public import proofs.«01_k».proof.Proof.Range
public import proofs.«01_k».proof.Proof.Reals
public import proofs.«01_k».proof.Proof.Gen.Pre_finite_views

@[expose] public section

set_option maxRecDepth 16384

noncomputable section

namespace Cert.Proof

open Idealize.ShloMosaic Pre_finite_views

/-- The facts: the keypoints name a batch entry and have finite coordinates, the maps and the matrices are finite, no
    centre is sent to infinity, and the mask is a bit, one to a cell. -/
structure Views (a0 : S1024x4.Idx → EReal) (a1 a2 : S2x64x60x80.Idx → EReal) (a3 : S2x3x3.Idx → EReal) (a4 : S2x1x480x640.Idx → EReal) : Prop where
  batch : ∀ k, (entry (F := Ideal) (a0 (ix2 k 0))).toNat < 2
  row : ∀ k, Finite (a0 (ix2 k 2))
  col : ∀ k, Finite (a0 (ix2 k 3))
  first : ∀ n e y x, Finite (a1 (ix4 n e y x))
  second : ∀ n e y x, Finite (a2 (ix4 n e y x))
  matrix : ∀ n a b, Finite (a3 (ix3 n a b))
  depth : ∀ (n : Fin 2) (y : Fin 60) (x : Fin 80), a3 (ix3 n 2 0) * centre x.val + a3 (ix3 n 2 1) * centre y.val + a3 (ix3 n 2 2) ≠ 0
  corner : ∀ (n : Fin 2) (y : Fin 60) (x : Fin 80), Bit (a4 (ix4 n 0 ⟨y.val * 8, by omega⟩ ⟨x.val * 8, by omega⟩))
  cell : ∀ (n : Fin 2) (e : Fin 64) (y : Fin 60) (x : Fin 80), a4 (ix4 n 0 ⟨y.val * 8 + e.val / 8, by omega⟩ ⟨x.val * 8 + e.val % 8, by omega⟩)
    = a4 (ix4 n 0 ⟨y.val * 8, by omega⟩ ⟨x.val * 8, by omega⟩)

/-- One bit or the other is one when one says so. -/
theorem or_bits (p q : Bool) : IntOp.ori (BitVec.ofBool p) (BitVec.ofBool q) = 1#1 ↔ p = true ∨ q = true := by
  cases p <;> cases q <;> decide

/-- A number below infinity in size is finite. -/
theorem finite_of_abs {x : EReal} (h : max x (-x) < Ideal.ofBits FTy.f32 2139095040#32) : Finite x := by
  have t : Ideal.ofBits FTy.f32 2139095040#32 = ⊤ := by simp [Ideal.ofBits, Ideal.ieee]
  rw [t, max_lt_iff] at h
  induction x with
  | bot => exact absurd h.2 (by simp)
  | top => exact absurd h.1 (by simp)
  | coe r => exact ⟨r, rfl⟩

section

variable (a0 : FVec Ideal S1024x4 .f32) (a1 a2 : FVec Ideal S2x64x60x80 .f32) (a3 : FVec Ideal S2x3x3 .f32) (a4 : FVec Ideal S2x1x480x640 .f32)

theorem batch_of (h : (Pre_finite_views.fn (F := Ideal) a0 a1 a2 a3 a4).1 = fun _ => 1#1) (k : Fin 1024) : (entry (F := Ideal) (a0 (ix2 k 0))).toNat < 2 := by
  have e := congrFun h (ix1 k)
  unfold Pre_finite_views.fn Pre_finite_views.fn_part1 Pre_finite_views.fn_part2 Pre_finite_views.fn_part3 at e
  revert e
  pointwise
  intro e
  simp only [IntOp.cmpi, and_bits, bit_one, Bool.and_eq_true] at e
  exact word_range (n := 2) (by decide) e.1 e.2

theorem coords_of (h : (Pre_finite_views.fn (F := Ideal) a0 a1 a2 a3 a4).2.1 = fun _ => 1#1) (k : Fin 1024) (j : Fin 2) : Finite (a0 (ix2 k ⟨2 + j.val, by omega⟩)) := by
  have e := congrFun h (ix2 k j)
  unfold Pre_finite_views.fn Pre_finite_views.fn_part1 Pre_finite_views.fn_part2 Pre_finite_views.fn_part3 at e
  revert e
  pointwise
  intro e
  exact finite_of_abs (of_decide_eq_true ((bit_one _).mp e))

theorem first_of (h : (Pre_finite_views.fn (F := Ideal) a0 a1 a2 a3 a4).2.2.1 = fun _ => 1#1) (n : Fin 2) (e : Fin 64) (y : Fin 60) (x : Fin 80) : Finite (a1 (ix4 n e y x)) := by
  have b := congrFun h (ix4 n e y x)
  unfold Pre_finite_views.fn Pre_finite_views.fn_part1 Pre_finite_views.fn_part2 Pre_finite_views.fn_part3 at b
  revert b
  pointwise
  intro b
  exact finite_of_abs (of_decide_eq_true ((bit_one _).mp b))

theorem second_of (h : (Pre_finite_views.fn (F := Ideal) a0 a1 a2 a3 a4).2.2.2.1 = fun _ => 1#1) (n : Fin 2) (e : Fin 64) (y : Fin 60) (x : Fin 80) : Finite (a2 (ix4 n e y x)) := by
  have b := congrFun h (ix4 n e y x)
  unfold Pre_finite_views.fn Pre_finite_views.fn_part1 Pre_finite_views.fn_part2 Pre_finite_views.fn_part3 at b
  revert b
  pointwise
  intro b
  exact finite_of_abs (of_decide_eq_true ((bit_one _).mp b))

theorem matrix_of (h : (Pre_finite_views.fn (F := Ideal) a0 a1 a2 a3 a4).2.2.2.2.1 = fun _ => 1#1) (n : Fin 2) (u v : Fin 3) : Finite (a3 (ix3 n u v)) := by
  have b := congrFun h (ix3 n u v)
  unfold Pre_finite_views.fn Pre_finite_views.fn_part1 Pre_finite_views.fn_part2 Pre_finite_views.fn_part3 at b
  revert b
  pointwise
  intro b
  exact finite_of_abs (of_decide_eq_true ((bit_one _).mp b))

theorem depth_of (h : (Pre_finite_views.fn (F := Ideal) a0 a1 a2 a3 a4).2.2.2.2.2.1 = fun _ => 1#1) (n : Fin 2) (y : Fin 60) (x : Fin 80) :
    a3 (ix3 n 2 0) * centre x.val + a3 (ix3 n 2 1) * centre y.val + a3 (ix3 n 2 2) ≠ 0 := by
  have b := congrFun h (ix3 n y x)
  unfold Pre_finite_views.fn Pre_finite_views.fn_part1 Pre_finite_views.fn_part2 Pre_finite_views.fn_part3 at b
  revert b
  unfold centre
  pointwise
  intro b
  exact of_decide_eq_true ((bit_one _).mp b)

theorem corner_of (h : (Pre_finite_views.fn (F := Ideal) a0 a1 a2 a3 a4).2.2.2.2.2.2.1 = fun _ => 1#1) (n : Fin 2) (y : Fin 60) (x : Fin 80) :
    Bit (a4 (ix4 n 0 ⟨y.val * 8, by omega⟩ ⟨x.val * 8, by omega⟩)) := by
  have b := congrFun h (ix5 n y 0 x 0)
  unfold Pre_finite_views.fn Pre_finite_views.fn_part1 Pre_finite_views.fn_part2 Pre_finite_views.fn_part3 at b
  revert b
  pointwise
  intro b
  exact ((or_bits _ _).mp b).imp of_decide_eq_true of_decide_eq_true

theorem cell_of (h : (Pre_finite_views.fn (F := Ideal) a0 a1 a2 a3 a4).2.2.2.2.2.2.2 = fun _ => 1#1) (n : Fin 2) (y : Fin 60) (x : Fin 80) (u v : Fin 8) :
    a4 (ix4 n 0 ⟨y.val * 8 + u.val, by omega⟩ ⟨x.val * 8 + v.val, by omega⟩) = a4 (ix4 n 0 ⟨y.val * 8, by omega⟩ ⟨x.val * 8, by omega⟩) := by
  have b := congrFun h (ix5 n y u x v)
  unfold Pre_finite_views.fn Pre_finite_views.fn_part1 Pre_finite_views.fn_part2 Pre_finite_views.fn_part3 at b
  revert b
  pointwise
  intro b
  exact of_decide_eq_true ((bit_one _).mp b)

/-- The bits are ones where the facts hold. -/
theorem views_of_bits
    (h : (Pre_finite_views.fn (F := Ideal) a0 a1 a2 a3 a4).1 = (fun _ => 1#1)
      ∧ (Pre_finite_views.fn (F := Ideal) a0 a1 a2 a3 a4).2.1 = (fun _ => 1#1)
      ∧ (Pre_finite_views.fn (F := Ideal) a0 a1 a2 a3 a4).2.2.1 = (fun _ => 1#1)
      ∧ (Pre_finite_views.fn (F := Ideal) a0 a1 a2 a3 a4).2.2.2.1 = (fun _ => 1#1)
      ∧ (Pre_finite_views.fn (F := Ideal) a0 a1 a2 a3 a4).2.2.2.2.1 = (fun _ => 1#1)
      ∧ (Pre_finite_views.fn (F := Ideal) a0 a1 a2 a3 a4).2.2.2.2.2.1 = (fun _ => 1#1)
      ∧ (Pre_finite_views.fn (F := Ideal) a0 a1 a2 a3 a4).2.2.2.2.2.2.1 = (fun _ => 1#1)
      ∧ (Pre_finite_views.fn (F := Ideal) a0 a1 a2 a3 a4).2.2.2.2.2.2.2 = (fun _ => 1#1)) : Views a0 a1 a2 a3 a4 := by
  obtain ⟨h0, h1, h2, h3, h4, h5, h6, h7⟩ := h
  exact ⟨batch_of a0 a1 a2 a3 a4 h0, fun k => coords_of a0 a1 a2 a3 a4 h1 k 0, fun k => coords_of a0 a1 a2 a3 a4 h1 k 1, first_of a0 a1 a2 a3 a4 h2,
    second_of a0 a1 a2 a3 a4 h3, matrix_of a0 a1 a2 a3 a4 h4, depth_of a0 a1 a2 a3 a4 h5, corner_of a0 a1 a2 a3 a4 h6,
    fun n e y x => cell_of a0 a1 a2 a3 a4 h7 n y x ⟨e.val / 8, by omega⟩ ⟨e.val % 8, by omega⟩⟩

end

end Cert.Proof

end
-- ==== Proof.Ideal.Agree.lean ====
/- A block's descriptors and losses are the specification's, where the arguments are views. -/
module

public import proofs.«01_k».proof.Proof.Ideal.Total
public import proofs.«01_k».proof.Proof.Row
public import proofs.«01_k».proof.Proof.Views

@[expose] public section

set_option maxRecDepth 16384

noncomputable section

namespace Cert.Proof.KernelIdeal

open Cert.KernelIdeal Cert.KernelIdeal.Gen
open Idealize.ShloMosaic Idealize.ShloMosaic.TcCoe

/-- The body's loss of one keypoint, where every number in it is finite. -/
theorem rowBody_finite {D : Fin 64 → EReal} {a b : EReal} {d : Fin 64 → Fin 4800 → EReal} {v u w : Fin 4800 → EReal}
    (hD : ∀ e, Finite (D e)) (ha : Finite a) (hb : Finite b) (hd : ∀ e p, Finite (d e p)) (hv : ∀ p, Bit (v p)) (hu : ∀ p, Finite (u p)) (hw : ∀ p, Finite (w p)) :
    rowBody (∑ e, D e * D e) (fun e => Ideal.ofBits FTy.f32 3221225472#32 * D e) (geoL a b) d (fun p => ∑ e, d e p * d e p)
      (fun p => v p * Ideal.ofBits FTy.f32 1084227584#32) (fun q p => geoR (u p) (w p) q) = rowLoss D a b d v u w := by
  choose D' eD using hD
  choose d' ed using hd
  choose u' eu using hu
  choose w' ew using hw
  obtain ⟨a', rfl⟩ := ha
  obtain ⟨b', rfl⟩ := hb
  obtain rfl : D = fun e => (D' e : EReal) := funext eD
  obtain rfl : d = fun e p => (d' e p : EReal) := funext fun e => funext fun p => ed e p
  obtain rfl : u = fun p => (u' p : EReal) := funext eu
  obtain rfl : w = fun p => (w' p : EReal) := funext ew
  exact rowBody_eq D' a' b' d' v hv u' w'

/-- Keypoint `j` of grid point `t`. -/
def kp (t : Fin 2) (j : Fin 512) : Fin 1024 := ⟨512 * t.val + j.val, by omega⟩

/-- Its number, as the body counts. -/
theorem count_eq (t : Fin 2) (j : Fin 512) (n : ℕ) (h : n = t.val) : BitVec.ofNat 32 j.val + BitVec.ofNat 32 n * 512#32 = BitVec.ofNat 32 (kp t j).val := by
  subst h
  apply BitVec.eq_of_toNat_eq
  have ht := t.isLt
  have hj := j.isLt
  show (BitVec.ofNat 32 j.val + BitVec.ofNat 32 t.val * 512#32).toNat = (BitVec.ofNat 32 (512 * t.val + j.val)).toNat
  simp only [BitVec.toNat_add, BitVec.toNat_mul, BitVec.toNat_ofNat]
  omega

/-- The row a tap's word names is the tap's cell. -/
theorem tap_pick {x1 : S2x64x4800.Idx → EReal} {d : (⟨4, ![2, 64, 60, 80]⟩ : Shape).Idx → EReal} {b y x : EReal}
    (h1 : ∀ n e p, x1 (ix3 n e p) = d (ix4 n e ⟨p.val / 80, by omega⟩ ⟨p.val % 80, by omega⟩)) (h : InRange (F := Ideal) b y x) (t : Fin 4) (e : Fin 64) {w : ℕ}
    (hw : w = (entry (F := Ideal) b).toNat * 4800 + (tapRow (F := Ideal) t y).toNat * 80 + (tapCol (F := Ideal) t x).toNat) (ha : w / 4800 < 2) (hb : w % 4800 < 4800) :
    x1 (ix3 ⟨w / 4800, ha⟩ e ⟨w % 4800, hb⟩) = pick d (entry (F := Ideal) b) (tapRow (F := Ideal) t y) (tapCol (F := Ideal) t x) e := by
  have r1 := h.entry
  have r2 := h.row t
  have r3 := h.col t
  subst hw
  rw [h1]
  unfold pick
  refine congrArg d ?_
  funext a
  apply Fin.ext
  match a with
  | 0 => show _ / 4800 = min _ 1; omega
  | 1 => rfl
  | 2 => show _ % 4800 / 80 = min _ 59; omega
  | 3 => show _ % 4800 % 80 = min _ 79; omega

section Agree

variable {a0 : S1024x4.Idx → EReal} {a1 a2 : S2x64x60x80.Idx → EReal} {a3 : S2x3x3.Idx → EReal} {a4 : S2x1x480x640.Idx → EReal}

/-- The keypoints' taps lie in the map. -/
theorem inRange_of_views (h : Views a0 a1 a2 a3 a4) (k : Fin 1024) : InRange (F := Ideal) (a0 (ix2 k 0)) (a0 (ix2 k 2)) (a0 (ix2 k 3)) :=
  inRange_of_finite (h.batch k) (h.row k) (h.col k)

/-- The body's loss of one keypoint is the specification's. -/
theorem lossOf_eq (h : Views a0 a1 a2 a3 a4) {i : grid0.Coords} {x0 : Vec Ideal S512x4 .f32} {x2 : Vec Ideal S2x64x4800 .f32} {x3 : Vec Ideal S2x4800 .f32} {x4 : Vec Ideal S2x3x3 .f32}
    {D : Fin 64 → EReal} (t : Fin 2) (hi : (i 0).val = t.val) (n : Fin 2) (j : Fin 512)
    (h0 : ∀ e, x0 (ix2 j e) = a0 (ix2 (kp t j) e)) (h2 : ∀ e p, x2 (ix3 n e p) = a2 (ix4 n e ⟨p.val / 80, by omega⟩ ⟨p.val % 80, by omega⟩))
    (h3 : ∀ p, x3 (ix2 n p) = a4 (ix4 n 0 ⟨p.val / 80 * 8, by omega⟩ ⟨p.val % 80 * 8, by omega⟩)) (h4 : ∀ a b, x4 (ix3 n a b) = a3 (ix3 n a b))
    (hD : ∀ e, D e = sample a0 a1 (kp t j) e) : lossOf i x0 x2 x3 x4 D n j = lossAt a0 a1 a2 a3 a4 n (kp t j) := by
  unfold lossOf
  rw [count_eq t j _ hi]
  simp only [h0, h2, h3, h4, hD, cellX_eq, cellY_eq]
  have hx : ∀ p : Fin 4800, Finite (centre (p.val % 80)) := fun p => Finite.centre (by have := p.isLt; omega)
  have hy : ∀ p : Fin 4800, Finite (centre (p.val / 80)) := fun p => Finite.centre (by have := p.isLt; omega)
  have hw : ∀ (e : Fin 3) (p : Fin 4800), Finite (warp (fun a b => a3 (ix3 n a b)) e (centre (p.val % 80)) (centre (p.val / 80))) := fun e p =>
    Finite.warp (h.matrix n) (hx p) (hy p) (h.depth n ⟨p.val / 80, by omega⟩ ⟨p.val % 80, by omega⟩)
  exact rowBody_finite (fun e => Finite.sample (h.row _) (h.col _) h.first e) (Finite.key (h.col _)) (Finite.key (h.row _)) (fun e p => h.second _ _ _ _)
    (fun p => h.corner n ⟨p.val / 80, by omega⟩ ⟨p.val % 80, by omega⟩) (hw 0) (hw 1)

end Agree

end Cert.Proof.KernelIdeal

end
-- ==== Proof.Ideal.Table.lean ====
/- The words of the table: the host's arithmetic on a keypoint, read off its operations. -/
module

public import proofs.«01_k».proof.Proof.Ideal.Frame
public import proofs.«01_k».proof.Proof.Sample
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- The keypoints. -/
abbrev kps : S1024x4.Idx → F .f32 := m (((0 : Dev nD) : Thread nD τ).loc main_arg0)

set_option maxHeartbeats 3200000 in
/-- A word of the table is the row of a tap. -/
theorem tbl_word (t : Fin 4) (k : Fin 1024) : (tbl m 0 : S4x1024.Idx → BitVec 32) (ix2 t k)
    = entry (kps m (ix2 k 0)) * 4800#32 + tapRow t (kps m (ix2 k 2)) * 80#32 + tapCol t (kps m (ix2 k 3)) := by
  show (V m 0 main_call0_v54 : S4x1024.Idx → BitVec 32) (ix2 t k) = _
  unfold V V0
  fin_cases t
  · after_reads_at
    show (StableHlo.upto (List.flatten [hostOps0]) (fun b => m (0, b)) 79 (Proc.devRef .tc main_call0_v50) : S1x1024.Idx → BitVec 32) (ix2 0 k) = _
    after_reads_at
    rfl
  · after_reads_at
    show (StableHlo.upto (List.flatten [hostOps0]) (fun b => m (0, b)) 79 (Proc.devRef .tc main_call0_v51) : S1x1024.Idx → BitVec 32) (ix2 0 k) = _
    after_reads_at
    rfl
  · after_reads_at
    show (StableHlo.upto (List.flatten [hostOps0]) (fun b => m (0, b)) 79 (Proc.devRef .tc main_call0_v52) : S1x1024.Idx → BitVec 32) (ix2 0 k) = _
    after_reads_at
    rfl
  · after_reads_at
    show (StableHlo.upto (List.flatten [hostOps0]) (fun b => m (0, b)) 79 (Proc.devRef .tc main_call0_v53) : S1x1024.Idx → BitVec 32) (ix2 0 k) = _
    after_reads_at
    rfl

/-- So the table's words are in range when every keypoint's taps are in the map. -/
theorem inMap_of (h : ∀ k : Fin 1024, InRange (kps m (ix2 k 0)) (kps m (ix2 k 2)) (kps m (ix2 k 3))) : InMap m := by
  intro x
  obtain ⟨t, k, rfl⟩ : ∃ (t : Fin 4) (k : Fin 1024), x = ix2 t k :=
    ⟨x 0, x 1, by funext a; match a with | 0 => rfl | 1 => rfl⟩
  show ((tbl m 0 : S4x1024.Idx → BitVec 32) (ix2 t k)).toNat < 9600
  rw [tbl_word, word_toNat (h k)]
  have h1 := (h k).entry
  have h2 := (h k).row t
  have h3 := (h k).col t
  omega

end Cert.Proof.KernelIdeal

end
-- ==== Proof.Ideal.Blocks.lean ====
/- The blocks the body is given, at an index of the arguments. -/
module

public import proofs.«01_k».proof.Proof.Ideal.Table
public import proofs.«01_k».proof.Proof.Spec
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- The two maps, the matrices and the mask. -/
abbrev arg1 (c : Dev nD) : S2x64x60x80.Idx → F .f32 := m ((c : Thread nD τ).loc main_arg1)
abbrev arg2 (c : Dev nD) : S2x64x60x80.Idx → F .f32 := m ((c : Thread nD τ).loc main_arg2)
abbrev arg3 (c : Dev nD) : S2x3x3.Idx → F .f32 := m ((c : Thread nD τ).loc main_arg3)
abbrev arg4 (c : Dev nD) : S2x1x480x640.Idx → F .f32 := m ((c : Thread nD τ).loc main_arg4)

/-- The first map with its rows and columns in one axis. -/
theorem flat1_at (c : Dev nD) (n : Fin 2) (e : Fin 64) (p : Fin 4800) : (V m c main_call0_v0 : S2x64x4800.Idx → F .f32) (ix3 n e p)
    = arg1 m c (ix4 n e ⟨p.val / 80, by omega⟩ ⟨p.val % 80, by omega⟩) := by
  unfold V V0
  after_reads_at

/-- The second. -/
theorem flat2_at (c : Dev nD) (n : Fin 2) (e : Fin 64) (p : Fin 4800) : (V m c main_call0_v1 : S2x64x4800.Idx → F .f32) (ix3 n e p)
    = arg2 m c (ix4 n e ⟨p.val / 80, by omega⟩ ⟨p.val % 80, by omega⟩) := by
  unfold V V0
  after_reads_at

/-- The mask's corner of each cell. -/
theorem vis_at (c : Dev nD) (n : Fin 2) (p : Fin 4800) : (V m c main_call0_v4 : S2x4800.Idx → F .f32) (ix2 n p)
    = arg4 m c (ix4 n 0 ⟨p.val / 80 * 8, by omega⟩ ⟨p.val % 80 * 8, by omega⟩) := by
  unfold V V0
  after_reads_at
  refine congrArg (arg4 m c) (funext fun a => ?_)
  match a with
  | 0 => rfl
  | 1 => rfl
  | 2 => exact Fin.ext (Nat.mul_comm _ _)
  | 3 => exact Fin.ext (Nat.mul_comm _ _)

/-- Where a block that is its whole array starts. -/
theorem off_zero {x s y : ℕ} (h : x = 0) : x * s + y = y := by rw [h, Nat.zero_mul, Nat.zero_add]

/-- Where a block of half the rows starts. -/
theorem off_half {x s y z t : ℕ} (hx : x = t) (hs : s = 512) (hz : 512 * t + y = z) : x * s + y = z := by
  rw [hx, hs, Nat.mul_comm]; exact hz

/-- Which block each window takes at a grid point. -/
theorem starts0 (t : Fin 2) : cc0_transform_0 (grid0.coords t) = ![t.val, 0] := by decide +kernel +revert
theorem starts1 (t : Fin 2) : cc0_transform_1 (grid0.coords t) = fun _ => 0 := by decide +kernel +revert
theorem starts2 (t : Fin 2) : cc0_transform_2 (grid0.coords t) = fun _ => 0 := by decide +kernel +revert
theorem starts3 (t : Fin 2) : cc0_transform_3 (grid0.coords t) = fun _ => 0 := by decide +kernel +revert
theorem starts4 (t : Fin 2) : cc0_transform_4 (grid0.coords t) = fun _ => 0 := by decide +kernel +revert
theorem starts5 (t : Fin 2) : cc0_transform_5 (grid0.coords t) = ![t.val, 0] := by decide +kernel +revert
theorem starts6 (t : Fin 2) : cc0_transform_6 (grid0.coords t) = ![t.val, 0, 0] := by decide +kernel +revert

/-- The keypoints' block: half of the rows. -/
theorem block0_at (hO : Ok m) (c : Dev nD) (t : Fin 2) (j : Fin 512) (e : Fin 4) :
    (iblk m hO c 0 t : S512x4.Idx → F .f32) (ix2 j e) = (V m c main_arg0 : S1024x4.Idx → F .f32) (ix2 ⟨512 * t.val + j.val, by omega⟩ e) := by
  unfold iblk
  refine congrArg (V m c main_arg0 : S1024x4.Idx → F .f32) ?_
  funext a
  apply Fin.ext
  blk_simp
  have key : ∀ a : Fin 2, cc0_transform_0 (grid0.coords t) a * S512x4.size a + (ix2 j e a).val
      = (ix2 (⟨512 * t.val + j.val, by omega⟩ : Fin 1024) e a).val := fun
    | 0 => off_half (congrFun (starts0 t) 0) rfl rfl
    | 1 => off_zero (congrFun (starts0 t) 1)
  exact key a

/-- The first map's. -/
theorem block1_at (hO : Ok m) (c : Dev nD) (t : Fin 2) (n : Fin 2) (e : Fin 64) (p : Fin 4800) :
    (iblk m hO c 1 t : S2x64x4800.Idx → F .f32) (ix3 n e p) = (V m c main_call0_v0 : S2x64x4800.Idx → F .f32) (ix3 n e p) := by
  unfold iblk
  refine congrArg (V m c main_call0_v0 : S2x64x4800.Idx → F .f32) ?_
  funext a
  apply Fin.ext
  blk_simp
  exact off_zero (congrFun (starts1 t) a)

/-- The second map's. -/
theorem block2_at (hO : Ok m) (c : Dev nD) (t : Fin 2) (n : Fin 2) (e : Fin 64) (p : Fin 4800) :
    (iblk m hO c 2 t : S2x64x4800.Idx → F .f32) (ix3 n e p) = (V m c main_call0_v1 : S2x64x4800.Idx → F .f32) (ix3 n e p) := by
  unfold iblk
  refine congrArg (V m c main_call0_v1 : S2x64x4800.Idx → F .f32) ?_
  funext a
  apply Fin.ext
  blk_simp
  exact off_zero (congrFun (starts2 t) a)

/-- The mask's. -/
theorem block3_at (hO : Ok m) (c : Dev nD) (t : Fin 2) (n : Fin 2) (p : Fin 4800) :
    (iblk m hO c 3 t : S2x4800.Idx → F .f32) (ix2 n p) = (V m c main_call0_v4 : S2x4800.Idx → F .f32) (ix2 n p) := by
  unfold iblk
  refine congrArg (V m c main_call0_v4 : S2x4800.Idx → F .f32) ?_
  funext a
  apply Fin.ext
  blk_simp
  exact off_zero (congrFun (starts3 t) a)

/-- The matrices'. -/
theorem block4_at (hO : Ok m) (c : Dev nD) (t : Fin 2) (n : Fin 2) (a b : Fin 3) :
    (iblk m hO c 4 t : S2x3x3.Idx → F .f32) (ix3 n a b) = (V m c main_arg3 : S2x3x3.Idx → F .f32) (ix3 n a b) := by
  unfold iblk
  refine congrArg (V m c main_arg3 : S2x3x3.Idx → F .f32) ?_
  funext a
  apply Fin.ext
  blk_simp
  exact off_zero (congrFun (starts4 t) a)

end Cert.Proof.KernelIdeal

end
-- ==== Proof.Ideal.Value.lean ====
/- What a grid point leaves in the two outputs' blocks, in the arguments. -/
module

public import proofs.«01_k».proof.Proof.Ideal.Agree
public import proofs.«01_k».proof.Proof.Ideal.Blocks

@[expose] public section

set_option maxRecDepth 16384

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ)

/-- The arguments are views. -/
def Seen : Prop := Views (kps m) (arg1 m 0) (arg2 m 0) (arg3 m 0) (arg4 m 0)

theorem Seen.inMap (h : Seen m) : InMap m := inMap_of m (inRange_of_views h)

/-- The point a grid coordinate is. -/
theorem coords_val (t : Fin 2) : ((grid0.coords t) 0).val = t.val := by decide +kernel +revert

/-- The row a tap's word names. -/
theorem wordAt_toNat (h : Seen m) (t : Fin 2) (q : Fin 4) (j : Fin 512) :
    BitVec.toNat (wordAt (F := Ideal) (grid0.coords t) tbM0_0 (tbl m 0) q j)
      = (entry (F := Ideal) (kps m (ix2 (kp t j) 0))).toNat * 4800 + (tapRow (F := Ideal) q (kps m (ix2 (kp t j) 2))).toNat * 80
        + (tapCol (F := Ideal) q (kps m (ix2 (kp t j) 3))).toNat := by
  have e : posOf (grid0.coords t) j = kp t j := Fin.ext (congrArg (fun n => 512 * n + j.val) (coords_val t))
  unfold wordAt
  rw [e]
  show ((tbl m 0 : S4x1024.Idx → BitVec 32) (ix2 q (kp t j))).toNat = _
  rw [tbl_word, word_toNat (inRange_of_views h _)]

/-- A tap's value. -/
theorem tapVal_eq (h : Seen m) (t : Fin 2) (x1 : Vec Ideal S2x64x4800 .f32) (hT : InMap m)
    (h1 : ∀ n e p, x1 (ix3 n e p) = arg1 m 0 (ix4 n e ⟨p.val / 80, by omega⟩ ⟨p.val % 80, by omega⟩)) (q : Fin 4) (j : Fin 512) (e : Fin 64) :
    tapVal 0 (grid0.coords t) x1 (tbl m 0) hT q j e
      = pick (arg1 m 0) (entry (F := Ideal) (kps m (ix2 (kp t j) 0))) (tapRow (F := Ideal) q (kps m (ix2 (kp t j) 2))) (tapCol (F := Ideal) q (kps m (ix2 (kp t j) 3))) e :=
  tap_pick h1 (inRange_of_views h _) q e (wordAt_toNat m h t q j) _ _

/-- The keypoints' block and the maps', in the arguments. -/
theorem rows_at (hO : Ok m) (t : Fin 2) (j : Fin 512) (e : Fin 4) : (iblk m hO 0 0 t : S512x4.Idx → EReal) (ix2 j e) = kps m (ix2 (kp t j) e) :=
  (block0_at m hO 0 t j e).trans (congrFun (V_main_arg0 m 0) _)
theorem first_at (hO : Ok m) (t : Fin 2) (n : Fin 2) (e : Fin 64) (p : Fin 4800) : (iblk m hO 0 1 t : S2x64x4800.Idx → EReal) (ix3 n e p)
    = arg1 m 0 (ix4 n e ⟨p.val / 80, by omega⟩ ⟨p.val % 80, by omega⟩) :=
  (block1_at m hO 0 t n e p).trans (flat1_at m 0 n e p)
theorem second_at (hO : Ok m) (t : Fin 2) (n : Fin 2) (e : Fin 64) (p : Fin 4800) : (iblk m hO 0 2 t : S2x64x4800.Idx → EReal) (ix3 n e p)
    = arg2 m 0 (ix4 n e ⟨p.val / 80, by omega⟩ ⟨p.val % 80, by omega⟩) :=
  (block2_at m hO 0 t n e p).trans (flat2_at m 0 n e p)
theorem mask_at (hO : Ok m) (t : Fin 2) (n : Fin 2) (p : Fin 4800) : (iblk m hO 0 3 t : S2x4800.Idx → EReal) (ix2 n p)
    = arg4 m 0 (ix4 n 0 ⟨p.val / 80 * 8, by omega⟩ ⟨p.val % 80 * 8, by omega⟩) :=
  (block3_at m hO 0 t n p).trans (vis_at m 0 n p)
theorem matrix_at (hO : Ok m) (t : Fin 2) (n : Fin 2) (a b : Fin 3) : (iblk m hO 0 4 t : S2x3x3.Idx → EReal) (ix3 n a b) = arg3 m 0 (ix3 n a b) :=
  (block4_at m hO 0 t n a b).trans (congrFun (V_main_arg3 m 0) _)

section Desc

variable (arg2' : Memref sig .tc .vmem S512x4 .f32) (harg2 : arg2'.IsWhole) (arg3' : Memref sig .tc .vmem S2x64x4800 .f32) (harg3 : arg3'.IsWhole)
  (arg9 : Memref sig .tc .vmem S9600x64 .f32) (arg10 arg11 arg12 arg13 : Memref sig .tc .vmem S512x64 .f32)

/-- The body's descriptor is the sample. -/
theorem desc_eq (h : Seen m) (t : Fin 2) (x0 : Vec Ideal S512x4 .f32) (x1 : Vec Ideal S2x64x4800 .f32) (hT : InMap m)
    (h0 : ∀ j e, x0 (ix2 j e) = kps m (ix2 (kp t j) e))
    (h1 : ∀ n e p, x1 (ix3 n e p) = arg1 m 0 (ix4 n e ⟨p.val / 80, by omega⟩ ⟨p.val % 80, by omega⟩)) (j : Fin 512) (e : Fin 64) :
    desc 0 (grid0.coords t) arg2' harg2 arg3' harg3 arg9 arg10 arg11 arg12 arg13 x0 x1 (tbl m 0) hT (ix2 j e) = sample (kps m) (arg1 m 0) (kp t j) e := by
  refine (desc_at 0 (grid0.coords t) arg2' harg2 arg3' harg3 arg9 arg10 arg11 arg12 arg13 x0 x1 (tbl m 0) hT j e).trans ?_
  rw [h0, h0]
  unfold sample
  exact congrArg _ (funext fun q => tapVal_eq m h t x1 hT h1 q j e)

end Desc

theorem mean_congr {y y' x x' : EReal} {g g' : Fin 4 → EReal} (hy : y = y') (hx : x = x') (hg : g = g') : mean y x g = mean y' x' g' := by
  rw [hy, hx, hg]

/-- The first output's block. -/
theorem out5_value (h : Seen m) (hO : Ok m) (hT : InMap m) (t : Fin 2) (j : Fin 512) (e : Fin 64) :
    (outsAt0 m hO hT 0 t).1 (ix2 j e) = sample (kps m) (arg1 m 0) (kp t j) e := by
  unfold outsAt0
  dsimp only
  refine (out5_at 0 (grid0.coords t) _ _ _ _ _ _ _ _ _ _ _ _ _ _ _ _ _ _ _ _ _ _ _ _ _ _ _ _ _ (tbl m 0) hT j e).trans ?_
  unfold sample
  exact mean_congr (rows_at m hO t j 2) (rows_at m hO t j 3) (funext fun q => tapVal_eq m h t _ hT (first_at m hO t) q j e)

/-- The second output's block. -/
theorem out6_value (h : Seen m) (hO : Ok m) (hT : InMap m) (t : Fin 2) (a : Fin 8) (b : Fin 128) :
    (outsAt0 m hO hT 0 t).2 (ix3 0 a b)
      = (∑ j, lossAt (kps m) (arg1 m 0) (arg2 m 0) (arg3 m 0) (arg4 m 0) 0 (kp t j)) + ∑ j, lossAt (kps m) (arg1 m 0) (arg2 m 0) (arg3 m 0) (arg4 m 0) 1 (kp t j) := by
  unfold outsAt0
  dsimp only
  refine (out6_at 0 (grid0.coords t) _ _ _ _ _ _ _ _ _ _ _ _ _ _ _ _ _ _ _ _ _ _ _ _ _ _ _ _ _ (tbl m 0) hT a b).trans ?_
  exact congrArg₂ (· + ·)
    (Finset.sum_congr rfl fun j _ => lossOf_eq h t (coords_val t) 0 j (rows_at m hO t j) (second_at m hO t 0) (mask_at m hO t 0) (matrix_at m hO t 0)
      (desc_eq m _ _ _ _ _ _ _ _ _ h t _ _ hT (rows_at m hO t) (first_at m hO t) j))
    (Finset.sum_congr rfl fun j _ => lossOf_eq h t (coords_val t) 1 j (rows_at m hO t j) (second_at m hO t 1) (mask_at m hO t 1) (matrix_at m hO t 1)
      (desc_eq m _ _ _ _ _ _ _ _ _ h t _ _ hT (rows_at m hO t) (first_at m hO t) j))

end Cert.Proof.KernelIdeal

end
-- ==== Proof.Ideal.Result.lean ====
/- What the run leaves in the two results, in the arguments. -/
module

public import proofs.«01_k».proof.Proof.Ideal.Value

@[expose] public section

set_option maxRecDepth 16384

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ)

variable (m : (ℓ : Loc nD τ sig) → Buf (Elt Ideal) ℓ)

/-- A table's contents, whichever: the outputs' blocks do not depend on them. -/
def anyTable : (pcfg0 (F := Ideal)).Adm := ⟨fun _ => Classical.ofNonempty, trivial⟩

/-- The outputs' blocks make up the outputs. -/
theorem covers5 (hO : Ok m) : ((cfgM m hO).win 5).Covers := (by decide +kernel : ((cfg0 anyTable).win 5).Covers)
theorem covers6 (hO : Ok m) : ((cfgM m hO).win 6).Covers := (by decide +kernel : ((cfg0 anyTable).win 6).Covers)

/-- The two views' losses over one grid point's keypoints. -/
def pointLoss (t : Fin 2) : EReal :=
  (∑ j, lossAt (kps m) (arg1 m 0) (arg2 m 0) (arg3 m 0) (arg4 m 0) 0 (kp t j)) + ∑ j, lossAt (kps m) (arg1 m 0) (arg2 m 0) (arg3 m 0) (arg4 m 0) 1 (kp t j)

/-- An index of a block, by its coordinates. -/
theorem exists_ix2 (y : S512x64.Idx) : ∃ (j : Fin 512) (e : Fin 64), y = ix2 j e :=
  ⟨y 0, y 1, by funext a; match a with | 0 => rfl | 1 => rfl⟩
theorem exists_ix3 (y : S1x8x128.Idx) : ∃ (a : Fin 8) (b : Fin 128), y = ix3 0 a b :=
  ⟨y 1, y 2, by funext a; match a with | 0 => exact Subsingleton.elim (α := Fin 1) _ _ | 1 => rfl | 2 => rfl⟩

/-- The descriptors. -/
theorem final5 (h : Seen m) (hO : Ok m) (hT : InMap m) : (dats m hO hT 0 0).arrAt 5 (cfgM m hO).N = descriptors (kps m) (arg1 m 0) := by
  refine (dats m hO hT 0 0).arrAt_eq_of_covers 5 _ (covers5 m hO) fun t hf y => ?_
  obtain ⟨j, e, rfl⟩ := exists_ix2 y
  blk_simp
  rw [after0_5]
  refine (out5_value m h hO hT t j e).trans ?_
  refine congrArg₂ (sample (kps m) (arg1 m 0)) (Fin.ext ?_) (Fin.ext ?_)
  · blk_simp
    exact (off_half (congrFun (starts5 t) 0) rfl rfl).symm
  · blk_simp
    exact (off_zero (congrFun (starts5 t) 1)).symm

/-- The sums of losses. -/
theorem final6 (h : Seen m) (hO : Ok m) (hT : InMap m) : (dats m hO hT 0 0).arrAt 6 (cfgM m hO).N = fun i : S2x8x128.Idx => pointLoss m (i 0) := by
  refine (dats m hO hT 0 0).arrAt_eq_of_covers 6 _ (covers6 m hO) fun t hf y => ?_
  obtain ⟨a, b, rfl⟩ := exists_ix3 y
  blk_simp
  rw [after0_6]
  refine (out6_value m h hO hT t a b).trans ?_
  refine congrArg (pointLoss m) (Fin.ext ?_)
  blk_simp
  exact (congrFun (starts6 t) 0).symm

/-- The windows' arrays are different buffers. -/
theorem arrays_inj : Function.Injective (Pipeline.arrRef spec0) := by
  exact (by decide : ∀ a b, Pipeline.arrRef spec0 a = Pipeline.arrRef spec0 b → a = b)

/-- The sums of losses, as the host's last operations find them. -/
theorem tail_arr (h : Seen m) (hO : Ok m) (hT : InMap m) :
    (Pipeline.withArrays spec0 0 (V0 m 0) (fun w => (dats m hO hT 0 0).arrAt w (cfgM m hO).N) (Proc.devRef .tc main_call0_v55_1) : S2x8x128.Idx → EReal)
      = fun i : S2x8x128.Idx => pointLoss m (i 0) :=
  (Pipeline.withArrays_arr spec0 arrays_inj 0 (V0 m 0) (fun w => (dats m hO hT 0 0).arrAt w (cfgM m hO).N) 6).trans (final6 m h hO hT)

/-- The host's last operations: two sums of losses, added and scaled. -/
theorem tail_of (W : Valuation τ sig (Elt Ideal)) (A : S2x8x128.Idx → EReal) (hA : (W (Proc.devRef .tc main_call0_v55_1) : S2x8x128.Idx → EReal) = A) (i : S_.Idx) :
    (StableHlo.after (List.flatten [hostOps1]) W (Proc.devRef .tc main_v0_0) : S_.Idx → EReal) i
      = (A (ix3 0 0 0) + A (ix3 1 0 0)) * Ideal.ofBits FTy.f32 973078528#32 := by
  subst hA
  after_reads_at

/-- The first result. -/
theorem tail_loss (h : Seen m) (hO : Ok m) (hT : InMap m) :
    (Pipeline.afterTail pcfgs (fun _ => adm m hO) (dats m hO hT) 0 (V0 m) [hostOps1] 0 main_v0_0 : S_.Idx → EReal)
      = fun _ => (pointLoss m 0 + pointLoss m 1) * Ideal.ofBits FTy.f32 973078528#32 :=
  funext fun i => tail_of _ _ (tail_arr m h hO hT) i

/-- The sum over the grid, in halves of the keypoints, is the sum over the views. -/
theorem sum_points (L : Fin 2 → Fin 1024 → EReal) :
    ((∑ j, L 0 (kp 0 j)) + ∑ j, L 1 (kp 0 j)) + ((∑ j, L 0 (kp 1 j)) + ∑ j, L 1 (kp 1 j)) = ∑ n, ∑ k, L n k := by
  have halves : ∀ n, ∑ k, L n k = (∑ j, L n (kp 0 j)) + ∑ j, L n (kp 1 j) := fun n => by
    refine (Fin.sum_univ_add (a := 512) (b := 512) (L n)).trans (congrArg₂ (· + ·) ?_ ?_)
    · exact Finset.sum_congr rfl fun j _ => congrArg (L n) (Fin.ext (by show j.val = 512 * 0 + j.val; omega))
    · exact Finset.sum_congr rfl fun j _ => congrArg (L n) (Fin.ext (by show 512 + j.val = 512 * 1 + j.val; omega))
  rw [Fin.sum_univ_two, halves, halves]
  exact add_add_add_comm _ _ _ _

/-- The first result is the mean. -/
theorem meanLoss_eq : (pointLoss m 0 + pointLoss m 1) * Ideal.ofBits FTy.f32 973078528#32 = meanLoss (kps m) (arg1 m 0) (arg2 m 0) (arg3 m 0) (arg4 m 0) := by
  unfold meanLoss pointLoss
  rw [sum_points (lossAt (kps m) (arg1 m 0) (arg2 m 0) (arg3 m 0) (arg4 m 0)), lit_count, lit_share, Ideal.div_coe (by norm_num)]

/-- The run's results: the loss, the descriptors, the arguments as they were. -/
theorem run_results (h : Seen m) (ρ : Dev nD → PrngReg) : θ_run defs (onTc (τ := τ) (main (F := Ideal))) ⟨m, fun _ => 0, ρ⟩ (fun r => ∀ c : Dev nD,
      r.2.mem ((c.tc : Thread nD τ).loc main_v0_0) = (fun _ : S_.Idx => meanLoss (kps m) (arg1 m 0) (arg2 m 0) (arg3 m 0) (arg4 m 0))
      ∧ r.2.mem ((c.tc : Thread nD τ).loc main_v0_1) = descriptors (kps m) (arg1 m 0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO : Ok m := trivial
  have hT := h.inMap
  refine (θ_run defs _ _).mono (fun r p c => ?_) (θ_run_and (run_main m ρ hO hT) (unchanged m ρ hO hT))
  obtain rfl : c = 0 := Subsingleton.elim (α := Fin 1) _ _
  refine ⟨?_, ((p.1 0).1 5).trans (final5 m h hO hT), p.2 0⟩
  refine ((p.1 0).2 main_v0_0 (by decide : main_v0_0 ∈ Pipeline.restRefs sig spec0)).trans ((tail_loss m h hO hT).trans ?_)
  exact funext fun _ => meanLoss_eq m

end Cert.Proof.KernelIdeal

end
-- ==== Proof.Ref.Gather.lean ====
/- The reference's gathers, at an index. -/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe

section Axis

variable {s si t : Shape} (d : GatherDims s si t) (j : t.Idx) (idx : IVec si 32) (a : Fin s.rank)

/-- On a collapsed axis with a start index, the operand's coordinate is that index, clamped. -/
theorem operand_start (hs : a ∈ d.startIndexMap) (hb : a ∉ d.operandBatchingDims) (ho : a ∉ d.sKept) (q : si.Idx)
    (hq : d.siIdx j ⟨d.startIndexMap.idxOf a, List.idxOf_lt_length_iff.2 hs⟩ = q) :
    (d.operandIdx j idx a).val = min (idx q).toInt.toNat (s.size a - d.sliceSizes a) := by
  show d.start j idx a + d.batchCoord j a + d.offCoord j a = _
  rw [d.batchCoord_eq_zero j a hb, d.offCoord_eq_zero j a ho]
  unfold GatherDims.start
  rw [dif_pos hs, hq]
  rfl

/-- On a kept axis without one, it is the result's own coordinate. -/
theorem operand_off (hs : a ∉ d.startIndexMap) (hb : a ∉ d.operandBatchingDims) (n : ℕ) (hn : d.offCoord j a = n) :
    (d.operandIdx j idx a).val = n := by
  show d.start j idx a + d.batchCoord j a + d.offCoord j a = _
  rw [d.batchCoord_eq_zero j a hb, hn]
  unfold GatherDims.start
  rw [dif_neg hs]
  omega

end Axis

/-- A descriptor gathered by three words per keypoint. -/
theorem gather_taps {α : Type} (x : S2x64x60x80.Idx → α) (idx : IVec S1024x3 32) (k : Fin 1024) (c : Fin 64) :
    Host.gather gather_S2x64x60x80_S1024x3_S1024x64_1_023_n_n_023_1_16411 x idx (ix2 k c)
      = x (ix4 ⟨min (idx (ix2 k 0)).toInt.toNat 1, by omega⟩ c ⟨min (idx (ix2 k 1)).toInt.toNat 59, by omega⟩
          ⟨min (idx (ix2 k 2)).toInt.toNat 79, by omega⟩) := by
  unfold Host.gather
  congr 1
  funext a
  apply Fin.ext
  match a with
  | 0 => exact operand_start _ _ _ _ (by decide) (by decide) (by decide) (ix2 k 0) (by funext b; match b with | 0 => rfl | 1 => rfl)
  | 1 => exact operand_off _ _ _ _ (by decide) (by decide) _ rfl
  | 2 => exact operand_start _ _ _ _ (by decide) (by decide) (by decide) (ix2 k 1) (by funext b; match b with | 0 => rfl | 1 => rfl)
  | 3 => exact operand_start _ _ _ _ (by decide) (by decide) (by decide) (ix2 k 2) (by funext b; match b with | 0 => rfl | 1 => rfl)

/-- The two coordinates of a keypoint, gathered by two column words. -/
theorem gather_cols {α : Type} (x : S1024x4.Idx → α) (idx : IVec S2x1 32) (k : Fin 1024) (e : Fin 2) :
    Host.gather gather_S1024x4_S2x1_S1024x2_0_1_n_n_1_1_10241 x idx (ix2 k e)
      = x (ix2 k ⟨min (idx (ix2 e 0)).toInt.toNat 3, by omega⟩) := by
  unfold Host.gather
  congr 1
  funext a
  apply Fin.ext
  match a with
  | 0 => exact operand_off _ _ _ _ (by decide) (by decide) _ rfl
  | 1 => exact operand_start _ _ _ _ (by decide) (by decide) (by decide) (ix2 e 0) (by funext b; match b with | 0 => rfl | 1 => rfl)

end Cert.Proof.Ref

end
-- ==== Proof.Ref.Sample.lean ====
/- The reference's descriptors, at an index: the bilinear mean of the four gathered taps. -/
module

public import proofs.«01_k».proof.Proof.Ref.Gather
public import Idealize.ShloMosaic.Lib.Tactic.CleanTypes

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

/-- A word that is not negative, wrapped the way an index is, is itself. -/
theorem wrap_word (w n : BitVec 32) (h : w.toNat < 2147483648) :
    Scalar.select (IntOp.cmpi .slt w 0#32) (w + n) w = w := by
  have e : (BitVec.slt w 0#32) = false := by
    rw [BitVec.slt_eq_decide, decide_eq_false_iff_not, BitVec.toInt_eq_toNat_of_lt (by omega)]
    simp
  simp [Scalar.select, IntOp.cmpi, e]

/-- Such a word's number, read signed. -/
theorem toInt_word (w : BitVec 32) (h : w.toNat < 2147483648) : w.toInt.toNat = w.toNat := by
  rw [BitVec.toInt_eq_toNat_of_lt (by omega)]; rfl

variable (V : Valuation τ sig (Elt Ideal))

/-- The keypoints, as the reference holds them. -/
abbrev kps : S1024x4.Idx → EReal := V (Proc.devRef .tc main_arg0)

/-- The first map. -/
abbrev map1 : S2x64x60x80.Idx → EReal := V (Proc.devRef .tc main_arg1)

theorem v73_at (k : Fin 1024) : (res_main_v73 V : S1024.Idx → BitVec 32) (ix1 k) = entry (F := Ideal) (kps V (ix2 k 0)) := by
  unfold res_main_v73; clean_types; pointwise; rfl
theorem v98_at (k : Fin 1024) : (res_main_v98 V : S1024.Idx → BitVec 32) (ix1 k) = colLo (F := Ideal) (kps V (ix2 k 3)) := by
  unfold res_main_v98 res_main_v84 res_main_v78; clean_types; pointwise; rfl
theorem v99_at (k : Fin 1024) : (res_main_v99 V : S1024.Idx → BitVec 32) (ix1 k) = colHi (F := Ideal) (kps V (ix2 k 3)) := by
  unfold res_main_v99 res_main_v84 res_main_v78 colHi gridX; clean_types; simp only [id_eq]; pointwise
theorem v100_at (k : Fin 1024) : (res_main_v100 V : S1024.Idx → BitVec 32) (ix1 k) = rowLo (F := Ideal) (kps V (ix2 k 2)) := by
  unfold res_main_v100 res_main_v85 res_main_v83; clean_types; pointwise; rfl
theorem v101_at (k : Fin 1024) : (res_main_v101 V : S1024.Idx → BitVec 32) (ix1 k) = rowHi (F := Ideal) (kps V (ix2 k 2)) := by
  unfold res_main_v101 res_main_v85 res_main_v83 rowHi gridY; clean_types; simp only [id_eq]; pointwise
theorem v95_at (k : Fin 1024) : (res_main_v95 V : S1024x1.Idx → EReal) (ix2 k 0) = fracX (kps V (ix2 k 3)) := by
  unfold res_main_v95 res_main_v84 res_main_v78; clean_types; pointwise; rfl
theorem v97_at (k : Fin 1024) : (res_main_v97 V : S1024x1.Idx → EReal) (ix2 k 0) = fracY (kps V (ix2 k 2)) := by
  unfold res_main_v97 res_main_v85 res_main_v83; clean_types; pointwise; rfl

/-- A keypoint's three coordinates have their taps in the map. -/
abbrev KeyIn (k : Fin 1024) : Prop := InRange (F := Ideal) (kps V (ix2 k 0)) (kps V (ix2 k 2)) (kps V (ix2 k 3))

/-- The three words of a tap, joined, are what a gather is given. -/
theorem gather_words (wb wy wx : S1024.Idx → BitVec 32) (k : Fin 1024) (c : Fin 64) (h1 : (wb (ix1 k)).toNat < 2) (h2 : (wy (ix1 k)).toNat < 60) (h3 : (wx (ix1 k)).toNat < 80) :
    Host.gather gather_S2x64x60x80_S1024x3_S1024x64_1_023_n_n_023_1_16411 (map1 V)
      (concatenate S1024x3 1 [⟨S1024x1, (broadcastInDim S1024x1 ![0] bcast_S1024_S1024x1_0 (select (cmpi .slt wb (broadcastInDim S1024 ![] bcast_S_S1024 (constantI S_ 32 0#32))) (addi wb (broadcastInDim S1024 ![] bcast_S_S1024 (constantI S_ 32 2#32))) wb))⟩,
        ⟨S1024x1, (broadcastInDim S1024x1 ![0] bcast_S1024_S1024x1_0 (select (cmpi .slt wy (broadcastInDim S1024 ![] bcast_S_S1024 (constantI S_ 32 0#32))) (addi wy (broadcastInDim S1024 ![] bcast_S_S1024 (constantI S_ 32 60#32))) wy))⟩,
        ⟨S1024x1, (broadcastInDim S1024x1 ![0] bcast_S1024_S1024x1_0 (select (cmpi .slt wx (broadcastInDim S1024 ![] bcast_S_S1024 (constantI S_ 32 0#32))) (addi wx (broadcastInDim S1024 ![] bcast_S_S1024 (constantI S_ 32 80#32))) wx))⟩] concatenates_S1024x1_S1024x1_S1024x1_S1024x3_d1) (ix2 k c)
      = pick (map1 V) (wb (ix1 k)) (wy (ix1 k)) (wx (ix1 k)) c := by
  rw [gather_taps]
  unfold pick
  refine congrArg (map1 V) (funext fun a => ?_)
  fin_cases a
  · refine Fin.ext (congrArg (min · 1) ?_)
    refine Eq.trans (congrArg (fun w : BitVec 32 => w.toInt.toNat) ?_) (toInt_word _ (lt_trans h1 (by decide)))
    refine Eq.trans ?_ (wrap_word (wb (ix1 k)) 2#32 (lt_trans h1 (by decide)))
    pointwise
    rfl
  · rfl
  · refine Fin.ext (congrArg (min · 59) ?_)
    refine Eq.trans (congrArg (fun w : BitVec 32 => w.toInt.toNat) ?_) (toInt_word _ (lt_trans h2 (by decide)))
    refine Eq.trans ?_ (wrap_word (wy (ix1 k)) 60#32 (lt_trans h2 (by decide)))
    pointwise
    rfl
  · refine Fin.ext (congrArg (min · 79) ?_)
    refine Eq.trans (congrArg (fun w : BitVec 32 => w.toInt.toNat) ?_) (toInt_word _ (lt_trans h3 (by decide)))
    refine Eq.trans ?_ (wrap_word (wx (ix1 k)) 80#32 (lt_trans h3 (by decide)))
    pointwise
    rfl

/-- The bilinear mean as the reference writes it, at an index. -/
theorem mean_eq (wy wx : S1024x1.Idx → EReal) (t0 t1 t2 t3 : S1024x64.Idx → EReal) (k : Fin 1024) (c : Fin 64) {y x g0 g1 g2 g3 : EReal}
    (hy : wy (ix2 k 0) = fracY y) (hx : wx (ix2 k 0) = fracX x)
    (e0 : t0 (ix2 k c) = g0) (e1 : t1 (ix2 k c) = g1) (e2 : t2 (ix2 k c) = g2) (e3 : t3 (ix2 k c) = g3) :
    addf (F := Ideal) (φ := .f32) (mulf (broadcastInDim S1024x64 ![0, 1] bcast_S1024x1_S1024x64_0_1 (subf (broadcastInDim S1024x1 ![] bcast_S_S1024x1 (constant S_ .f32 0x3F800000#32)) wy))
        (addf (mulf (broadcastInDim S1024x64 ![0, 1] bcast_S1024x1_S1024x64_0_1 (subf (broadcastInDim S1024x1 ![] bcast_S_S1024x1 (constant S_ .f32 0x3F800000#32)) wx)) t0)
          (mulf (broadcastInDim S1024x64 ![0, 1] bcast_S1024x1_S1024x64_0_1 wx) t1)))
      (mulf (broadcastInDim S1024x64 ![0, 1] bcast_S1024x1_S1024x64_0_1 wy)
        (addf (mulf (broadcastInDim S1024x64 ![0, 1] bcast_S1024x1_S1024x64_0_1 (subf (broadcastInDim S1024x1 ![] bcast_S_S1024x1 (constant S_ .f32 0x3F800000#32)) wx)) t2)
          (mulf (broadcastInDim S1024x64 ![0, 1] bcast_S1024x1_S1024x64_0_1 wx) t3))) (ix2 k c)
      = mean y x ![g0, g1, g2, g3] := by
  subst e0; subst e1; subst e2; subst e3
  unfold mean
  rw [← hy, ← hx]
  pointwise

set_option maxHeartbeats 1600000 in
/-- The second result, at an index. -/
theorem v202_at (k : Fin 1024) (c : Fin 64) (h : KeyIn V k) :
    (res_main_v202 V : S1024x64.Idx → EReal) (ix2 k c) = sample (kps V) (map1 V) k c := by
  unfold res_main_v202
  clean_types
  have r0 := h.row 0
  have r2 := h.row 2
  have c0 := h.col 0
  have c1 := h.col 1
  have g0 := gather_words V (res_main_v73 V) (res_main_v100 V) (res_main_v98 V) k c (by rw [v73_at]; exact h.entry) (by rw [v100_at]; exact r0) (by rw [v98_at]; exact c0)
  have g1 := gather_words V (res_main_v73 V) (res_main_v100 V) (res_main_v99 V) k c (by rw [v73_at]; exact h.entry) (by rw [v100_at]; exact r0) (by rw [v99_at]; exact c1)
  have g2 := gather_words V (res_main_v73 V) (res_main_v101 V) (res_main_v98 V) k c (by rw [v73_at]; exact h.entry) (by rw [v101_at]; exact r2) (by rw [v98_at]; exact c0)
  have g3 := gather_words V (res_main_v73 V) (res_main_v101 V) (res_main_v99 V) k c (by rw [v73_at]; exact h.entry) (by rw [v101_at]; exact r2) (by rw [v99_at]; exact c1)
  rw [v73_at, v100_at, v98_at] at g0
  rw [v73_at, v100_at, v99_at] at g1
  rw [v73_at, v101_at, v98_at] at g2
  rw [v73_at, v101_at, v99_at] at g3
  refine Eq.trans (mean_eq _ _ _ _ _ _ k c (v97_at V k) (v95_at V k) g0 g1 g2 g3) ?_
  unfold sample
  congr 1
  funext t
  fin_cases t <;> rfl

end Cert.Proof.Ref

end
-- ==== Proof.Ref.Parts.lean ====
/- What the reference's first result is made of, at an index: the distances, the matches and the visible cells. -/
module

public import proofs.«01_k».proof.Proof.Ref.Sample

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

variable (V : Valuation τ sig (Elt Ideal))

/-- The other view's map. -/
abbrev map2 : S2x64x60x80.Idx → EReal := V (Proc.devRef .tc main_arg2)

/-- The homographies. -/
abbrev homo : S2x3x3.Idx → EReal := V (Proc.devRef .tc main_arg3)

/-- The visibility mask. -/
abbrev mask : S2x1x480x640.Idx → EReal := V (Proc.devRef .tc main_arg4)

/-- The descriptors. -/
abbrev descs : S1024x64.Idx → EReal := res_main_v202 V

/-- From each warped cell to each keypoint. -/
abbrev gaps : S2x1024x60x80x2.Idx → EReal := res_main_v60 V

/-- The warped cells, homogeneous. -/
abbrev warped : S2x60x80x3.Idx → EReal := res_main_v30 V

theorem v219_at (n : Fin 2) (k : Fin 1024) (y : Fin 60) (x : Fin 80) : (res_main_v219 V : S2x1024x60x80.Idx → EReal) (ix4 n k y x)
    = (Ideal.sqrt (max (∑ e, descs V (ix2 k e) * descs V (ix2 k e) + ∑ e, map2 V (ix4 n e y x) * map2 V (ix4 n e y x)
        - Ideal.ofBits FTy.f32 1073741824#32 * ∑ e, map2 V (ix4 n e y x) * descs V (ix2 k e)) (Ideal.ofBits FTy.f32 730643660#32)) : EReal) := by
  unfold res_main_v219; clean_types; pointwise

theorem v30_at (n : Fin 2) (y : Fin 60) (x : Fin 80) (e : Fin 3) : (res_main_v30 V : S2x60x80x3.Idx → EReal) (ix4 n y x e)
    = (homo V (ix3 n e 0) * centre x.val + homo V (ix3 n e 1) * centre y.val + homo V (ix3 n e 2) : EReal) := by
  rw [mul_comm (homo V (ix3 n e 0)), mul_comm (homo V (ix3 n e 1))]
  unfold centre
  unfold res_main_v30; clean_types; pointwise
  simp only [Finset.sum_const, Finset.card_univ, Fintype.card_fin, one_smul]

theorem v64_at (n : Fin 2) (k : Fin 1024) (y : Fin 60) (x : Fin 80) : (res_main_v64 V : S2x1024x60x80.Idx → EReal) (ix4 n k y x)
    = (FloatOps.uitofp (F := Ideal) .f32 (BitVec.ofBool (decide (Ideal.sqrt (∑ e, gaps V (ix5 n k y x e) * gaps V (ix5 n k y x e)) ≤ Ideal.ofBits FTy.f32 1089470464#32))) : EReal) := by
  unfold res_main_v64; clean_types; pointwise

theorem v60_at (n : Fin 2) (k : Fin 1024) (y : Fin 60) (x : Fin 80) (e : Fin 2) : (res_main_v60 V : S2x1024x60x80x2.Idx → EReal) (ix5 n k y x e)
    = (key (BitVec.ofNat 32 k.val) ((res_main_v7 V : S1x1024x2.Idx → EReal) (ix3 0 k e))
      - Ideal.div (warped V (ix4 n y x ⟨e.val, by omega⟩)) (warped V (ix4 n y x 2)) : EReal) := by
  unfold key
  unfold res_main_v60; clean_types; pointwise

theorem v37_at (n : Fin 2) (e : Fin 64) (y : Fin 60) (x : Fin 80) : (res_main_v37 V : S2x64x60x80.Idx → EReal) (ix4 n e y x)
    = (mask V (ix4 n 0 ⟨y.val * 8 + e.val / 8, by omega⟩ ⟨x.val * 8 + e.val % 8, by omega⟩) : EReal) := by
  unfold res_main_v37; clean_types; pointwise

theorem v7_at (k : Fin 1024) (e : Fin 2) : (res_main_v7 V : S1x1024x2.Idx → EReal) (ix3 0 k e) = (kps V (ix2 k ⟨3 - e.val, by omega⟩) : EReal) := by
  unfold res_main_v7; clean_types; pointwise
  refine (gather_cols _ _ k e).trans (congrArg (kps V) ?_)
  have h : (broadcastInDim S2x1 ![0] bcast_S2_S2x1_0
        (select (cmpi CmpIPredicate.slt (res_main_c V) (broadcastInDim S2 ![] bcast_S_S2 (constantI S_ 32 0#32)))
          (addi (res_main_c V) (broadcastInDim S2 ![] bcast_S_S2 (constantI S_ 32 4#32))) (res_main_c V))) (ix2 e 0) = BitVec.ofNat 32 (3 - e.val) := by
    unfold res_main_c
    fin_cases e <;> rfl
  have h' : min (BitVec.ofNat 32 (3 - e.val)).toInt.toNat 3 = 3 - e.val := by fin_cases e <;> rfl
  funext a
  match a with
  | 0 => rfl
  | 1 => exact Fin.ext ((congrArg (fun w : BitVec 32 => min w.toInt.toNat 3) h).trans h')

/-- A slice of an array constant along its second axis. -/
theorem slice_const {a b o : ℕ} {X : (⟨4, ![2, b, 60, 80]⟩ : Shape).Idx → EReal} {C : Fin 2 → Fin 60 → Fin 80 → EReal} (hX : ∀ n e y x, X (ix4 n e y x) = C n y x)
    (h : (⟨4, ![2, b, 60, 80]⟩ : Shape).Slices ![0, o, 0, 0] ⟨4, ![2, a, 60, 80]⟩) (n : Fin 2) (e : Fin a) (y : Fin 60) (x : Fin 80) :
    extractStridedSlice ⟨4, ![2, a, 60, 80]⟩ ![0, o, 0, 0] X h (ix4 n e y x) = C n y x := by
  have hb : o + e.val < b := Nat.lt_of_lt_of_le (Nat.add_lt_add_left e.isLt o) (h.2 1)
  refine Eq.trans (congrArg X ?_) (hX n ⟨o + e.val, hb⟩ y x)
  funext z; apply Fin.ext
  match z with
  | 0 => exact Nat.zero_add _
  | 1 => rfl
  | 2 => exact Nat.zero_add _
  | 3 => exact Nat.zero_add _

/-- A product of two such slices, when the constant is its own square. -/
theorem halve {a b : ℕ} {X : (⟨4, ![2, b, 60, 80]⟩ : Shape).Idx → EReal} {C : Fin 2 → Fin 60 → Fin 80 → EReal} (hC : ∀ n y x, C n y x * C n y x = C n y x)
    (h0 : (⟨4, ![2, b, 60, 80]⟩ : Shape).Slices ![0, 0, 0, 0] ⟨4, ![2, a, 60, 80]⟩)
    (h1 : (⟨4, ![2, b, 60, 80]⟩ : Shape).Slices ![0, a, 0, 0] ⟨4, ![2, a, 60, 80]⟩) (hX : ∀ n e y x, X (ix4 n e y x) = C n y x) (n : Fin 2) (e : Fin a) (y : Fin 60) (x : Fin 80) :
    (mulf (F := Ideal) (φ := .f32) (extractStridedSlice ⟨4, ![2, a, 60, 80]⟩ ![0, 0, 0, 0] X h0) (extractStridedSlice ⟨4, ![2, a, 60, 80]⟩ ![0, a, 0, 0] X h1) (ix4 n e y x) : EReal) = C n y x :=
  (congrArg₂ (fun u v : EReal => u * v) (slice_const hX h0 n e y x) (slice_const hX h1 n e y x)).trans (hC n y x)

/-- A cell whose pixels are all one number, its own square, is that number: the product is taken by halves. -/
theorem v55_at {C : Fin 2 → Fin 60 → Fin 80 → EReal} (hC : ∀ n y x, C n y x * C n y x = C n y x)
    (hX : ∀ (n : Fin 2) (e : Fin 64) (y : Fin 60) (x : Fin 80), mask V (ix4 n 0 ⟨y.val * 8 + e.val / 8, by omega⟩ ⟨x.val * 8 + e.val % 8, by omega⟩) = C n y x)
    (n : Fin 2) (y : Fin 60) (x : Fin 80) : (res_main_v55 V : S2x1x60x80.Idx → EReal) (ix4 n 0 y x) = C n y x :=
  halve (X := res_main_v52 V) hC _ _ (halve (X := res_main_v49 V) hC _ _ (halve (X := res_main_v46 V) hC _ _ (halve (X := res_main_v43 V) hC _ _
    (halve (X := res_main_v40 V) hC _ _ (halve (X := res_main_v37 V) hC _ _ fun n e y x => (v37_at V n e y x).trans (hX n e y x)))))) n 0 y x

end Cert.Proof.Ref

end
-- ==== Proof.Ref.Loss.lean ====
/- The reference's first result: the mean of the hinge losses, keypoint by keypoint. -/
module

public import proofs.«01_k».proof.Proof.Ref.Sample

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

/-- The greatest value over a view's cells. -/
theorem posMax_at (X : S2x1024x60x80.Idx → EReal) (n : Fin 2) (k : Fin 1024) :
    (Host.reduce (FloatOps.maximumf (F := Ideal) (φ := .f32)) (shapeCast S2x1024x4800 X shapeCasts_S2x1024x60x80_S2x1024x4800) (constant (F := Ideal) S_ .f32 0xFF800000#32) reducesTo_S2x1024x4800_S2x1024_d2 h_S_ (ix2 n k) : EReal)
      = Finset.fold max (Ideal.ofBits FTy.f32 4286578688#32) (fun p : Fin 4800 => X (ix4 n k ⟨p.val / 80, by omega⟩ ⟨p.val % 80, by omega⟩)) Finset.univ := by
  pointwise

/-- The least. -/
theorem negMin_at (X : S2x1024x60x80.Idx → EReal) (n : Fin 2) (k : Fin 1024) :
    (Host.reduce (FloatOps.minimumf (F := Ideal) (φ := .f32)) (shapeCast S2x1024x4800 X shapeCasts_S2x1024x60x80_S2x1024x4800) (constant (F := Ideal) S_ .f32 0x7F800000#32) reducesTo_S2x1024x4800_S2x1024_d2 h_S_ (ix2 n k) : EReal)
      = Finset.fold min (Ideal.ofBits FTy.f32 2139095040#32) (fun p : Fin 4800 => X (ix4 n k ⟨p.val / 80, by omega⟩ ⟨p.val % 80, by omega⟩)) Finset.univ := by
  pointwise

/-- The mean over views and keypoints. -/
theorem mean_at (X : S2x1024.Idx → EReal) :
    (mulf (F := Ideal) (φ := .f32) (Host.divf (Host.reduceAdd X (constant S_ .f32 0x00000000#32) reducesTo_S2x1024_S_d0_1 h_S_) (constant S_ .f32 0x45000000#32)) (constant S_ .f32 0x3F800000#32) ix0 : EReal)
      = Ideal.div (∑ n : Fin 2, ∑ k : Fin 1024, X (ix2 n k)) (Ideal.ofBits FTy.f32 1157627904#32) := by
  pointwise

/-- The hinge. -/
theorem hinge_at (P N : S2x1024.Idx → EReal) (n : Fin 2) (k : Fin 1024) :
    (maximumf (F := Ideal) (φ := .f32) (addf (subf P N) (broadcastInDim S2x1024 ![] bcast_S_S2x1024 (constant S_ .f32 0x3F800000#32))) (broadcastInDim S2x1024 ![] bcast_S_S2x1024 (constant S_ .f32 0x00000000#32)) (ix2 n k) : EReal)
      = max (P (ix2 n k) - N (ix2 n k) + 1) 0 := by
  pointwise

/-- The distances with the unmatched cells lowered. -/
def lowered (A s : S2x1024x60x80.Idx → EReal) (v : S2x1x60x80.Idx → EReal) : S2x1024x60x80.Idx → EReal :=
  subf (F := Ideal) (φ := .f32) A (mulf (mulf (subf (broadcastInDim S2x1024x60x80 ![] bcast_S_S2x1024x60x80 (constant S_ .f32 0x3F800000#32)) s) (broadcastInDim S2x1024x60x80 ![0, 1, 2, 3] bcast_S2x1x60x80_S2x1024x60x80_0_1_2_3 v)) (broadcastInDim S2x1024x60x80 ![] bcast_S_S2x1024x60x80 (constant S_ .f32 0x40A00000#32)))

theorem lowered_at (A s : S2x1024x60x80.Idx → EReal) (v : S2x1x60x80.Idx → EReal) (n : Fin 2) (k : Fin 1024) (y : Fin 60) (x : Fin 80) :
    lowered A s v (ix4 n k y x) = A (ix4 n k y x) - (1 - s (ix4 n k y x)) * v (ix4 n 0 y x) * Ideal.ofBits FTy.f32 1084227584#32 := by
  unfold lowered
  pointwise

/-- The distances with the matched cells raised. -/
def lifted (A s : S2x1024x60x80.Idx → EReal) (v : S2x1x60x80.Idx → EReal) : S2x1024x60x80.Idx → EReal :=
  addf (F := Ideal) (φ := .f32) A (mulf (mulf s (broadcastInDim S2x1024x60x80 ![0, 1, 2, 3] bcast_S2x1x60x80_S2x1024x60x80_0_1_2_3 v)) (broadcastInDim S2x1024x60x80 ![] bcast_S_S2x1024x60x80 (constant S_ .f32 0x40A00000#32)))

theorem lifted_at (A s : S2x1024x60x80.Idx → EReal) (v : S2x1x60x80.Idx → EReal) (n : Fin 2) (k : Fin 1024) (y : Fin 60) (x : Fin 80) :
    lifted A s v (ix4 n k y x) = A (ix4 n k y x) + s (ix4 n k y x) * v (ix4 n 0 y x) * Ideal.ofBits FTy.f32 1084227584#32 := by
  unfold lifted
  pointwise

/-- Each keypoint's greatest lowered distance. -/
def pos (A s : S2x1024x60x80.Idx → EReal) (v : S2x1x60x80.Idx → EReal) : S2x1024.Idx → EReal :=
  Host.reduce (FloatOps.maximumf (F := Ideal) (φ := .f32)) (shapeCast S2x1024x4800 (lowered A s v) shapeCasts_S2x1024x60x80_S2x1024x4800) (constant (F := Ideal) S_ .f32 0xFF800000#32) reducesTo_S2x1024x4800_S2x1024_d2 h_S_

/-- Its least lifted one. -/
def neg (A s : S2x1024x60x80.Idx → EReal) (v : S2x1x60x80.Idx → EReal) : S2x1024.Idx → EReal :=
  Host.reduce (FloatOps.minimumf (F := Ideal) (φ := .f32)) (shapeCast S2x1024x4800 (lifted A s v) shapeCasts_S2x1024x60x80_S2x1024x4800) (constant (F := Ideal) S_ .f32 0x7F800000#32) reducesTo_S2x1024x4800_S2x1024_d2 h_S_

/-- The hinge losses. -/
def hinges (A s : S2x1024x60x80.Idx → EReal) (v : S2x1x60x80.Idx → EReal) : S2x1024.Idx → EReal :=
  maximumf (F := Ideal) (φ := .f32) (addf (subf (pos A s v) (neg A s v)) (broadcastInDim S2x1024 ![] bcast_S_S2x1024 (constant S_ .f32 0x3F800000#32))) (broadcastInDim S2x1024 ![] bcast_S_S2x1024 (constant S_ .f32 0x00000000#32))

theorem hinges_at (A s : S2x1024x60x80.Idx → EReal) (v : S2x1x60x80.Idx → EReal) (n : Fin 2) (k : Fin 1024) : hinges A s v (ix2 n k) =
        max (Finset.fold max (Ideal.ofBits FTy.f32 4286578688#32) (fun p : Fin 4800 => A (ix4 n k ⟨p.val / 80, by omega⟩ ⟨p.val % 80, by omega⟩)
              - (1 - s (ix4 n k ⟨p.val / 80, by omega⟩ ⟨p.val % 80, by omega⟩)) * v (ix4 n 0 ⟨p.val / 80, by omega⟩ ⟨p.val % 80, by omega⟩) * Ideal.ofBits FTy.f32 1084227584#32) Finset.univ
          - Finset.fold min (Ideal.ofBits FTy.f32 2139095040#32) (fun p : Fin 4800 => A (ix4 n k ⟨p.val / 80, by omega⟩ ⟨p.val % 80, by omega⟩)
              + s (ix4 n k ⟨p.val / 80, by omega⟩ ⟨p.val % 80, by omega⟩) * v (ix4 n 0 ⟨p.val / 80, by omega⟩ ⟨p.val % 80, by omega⟩) * Ideal.ofBits FTy.f32 1084227584#32) Finset.univ + 1) 0 := by
  refine (hinge_at (pos A s v) (neg A s v) n k).trans ?_
  have h1 : pos A s v (ix2 n k) = _ := posMax_at (lowered A s v) n k
  have h2 : neg A s v (ix2 n k) = _ := negMin_at (lifted A s v) n k
  rw [h1, h2]
  simp only [lowered_at, lifted_at]

/-- The first result as the operations compose it. -/
def lossOf (A s : S2x1024x60x80.Idx → EReal) (v : S2x1x60x80.Idx → EReal) : S_.Idx → EReal :=
  mulf (F := Ideal) (φ := .f32) (Host.divf (Host.reduceAdd (hinges A s v) (constant S_ .f32 0x00000000#32) reducesTo_S2x1024_S_d0_1 h_S_) (constant S_ .f32 0x45000000#32)) (constant S_ .f32 0x3F800000#32)

/-- The first result, keypoint by keypoint. -/
theorem lossOf_at (A s : S2x1024x60x80.Idx → EReal) (v : S2x1x60x80.Idx → EReal) : lossOf A s v ix0
    = Ideal.div (∑ n : Fin 2, ∑ k : Fin 1024,
        max (Finset.fold max (Ideal.ofBits FTy.f32 4286578688#32) (fun p : Fin 4800 => A (ix4 n k ⟨p.val / 80, by omega⟩ ⟨p.val % 80, by omega⟩)
              - (1 - s (ix4 n k ⟨p.val / 80, by omega⟩ ⟨p.val % 80, by omega⟩)) * v (ix4 n 0 ⟨p.val / 80, by omega⟩ ⟨p.val % 80, by omega⟩) * Ideal.ofBits FTy.f32 1084227584#32) Finset.univ
          - Finset.fold min (Ideal.ofBits FTy.f32 2139095040#32) (fun p : Fin 4800 => A (ix4 n k ⟨p.val / 80, by omega⟩ ⟨p.val % 80, by omega⟩)
              + s (ix4 n k ⟨p.val / 80, by omega⟩ ⟨p.val % 80, by omega⟩) * v (ix4 n 0 ⟨p.val / 80, by omega⟩ ⟨p.val % 80, by omega⟩) * Ideal.ofBits FTy.f32 1084227584#32) Finset.univ + 1) 0)
      (Ideal.ofBits FTy.f32 1157627904#32) := by
  refine (mean_at (hinges A s v)).trans ?_
  simp only [hinges_at]

end Cert.Proof.Ref

end
-- ==== Proof.Ref.Value.lean ====
/- The reference's first result: the mean over views and keypoints of the hinge losses. -/
module

public import proofs.«01_k».proof.Proof.Ref.Parts
public import proofs.«01_k».proof.Proof.Ref.Loss

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

variable (V : Valuation τ sig (Elt Ideal))

theorem dist_at (n : Fin 2) (k : Fin 1024) (y : Fin 60) (x : Fin 80) : (res_main_v219 V : S2x1024x60x80.Idx → EReal) (ix4 n k y x)
    = dist (fun e => descs V (ix2 k e)) (fun e => map2 V (ix4 n e y x)) := v219_at V n k y x

/-- A warped cell, as the reference has it. -/
theorem warp_at (n : Fin 2) (y : Fin 60) (x : Fin 80) (e : Fin 3) :
    Ideal.div (warped V (ix4 n y x e)) (warped V (ix4 n y x 2)) = warp (fun a b => homo V (ix3 n a b)) e (centre x.val) (centre y.val) := by
  unfold warp
  exact congrArg₂ Ideal.div (v30_at V n y x e) (v30_at V n y x 2)

theorem near_at (n : Fin 2) (k : Fin 1024) (y : Fin 60) (x : Fin 80) : (res_main_v64 V : S2x1024x60x80.Idx → EReal) (ix4 n k y x)
    = near (key (BitVec.ofNat 32 k.val) (kps V (ix2 k 3))) (key (BitVec.ofNat 32 k.val) (kps V (ix2 k 2)))
        (warp (fun a b => homo V (ix3 n a b)) 0 (centre x.val) (centre y.val)) (warp (fun a b => homo V (ix3 n a b)) 1 (centre x.val) (centre y.val)) := by
  refine (v64_at V n k y x).trans ?_
  have g0 : gaps V (ix5 n k y x 0) = _ := (v60_at V n k y x 0).trans (congrArg₂ (fun u w : EReal => key (BitVec.ofNat 32 k.val) u - w) (v7_at V k 0) (warp_at V n y x 0))
  have g1 : gaps V (ix5 n k y x 1) = _ := (v60_at V n k y x 1).trans (congrArg₂ (fun u w : EReal => key (BitVec.ofNat 32 k.val) u - w) (v7_at V k 1) (warp_at V n y x 1))
  rw [Fin.sum_univ_two, g0, g1]
  rfl

/-- The first result. -/
theorem loss_at {C : Fin 2 → Fin 60 → Fin 80 → EReal} (hC : ∀ n y x, C n y x * C n y x = C n y x)
    (hX : ∀ (n : Fin 2) (e : Fin 64) (y : Fin 60) (x : Fin 80), mask V (ix4 n 0 ⟨y.val * 8 + e.val / 8, by omega⟩ ⟨x.val * 8 + e.val % 8, by omega⟩) = C n y x) :
    lossOf (res_main_v219 V) (res_main_v64 V) (res_main_v55 V) ix0
      = Ideal.div (∑ n : Fin 2, ∑ k : Fin 1024, rowLoss (fun e => descs V (ix2 k e)) (key (BitVec.ofNat 32 k.val) (kps V (ix2 k 3))) (key (BitVec.ofNat 32 k.val) (kps V (ix2 k 2)))
          (fun e p => map2 V (ix4 n e ⟨p.val / 80, by omega⟩ ⟨p.val % 80, by omega⟩)) (fun p => C n ⟨p.val / 80, by omega⟩ ⟨p.val % 80, by omega⟩)
          (fun p => warp (fun a b => homo V (ix3 n a b)) 0 (centre (p.val % 80)) (centre (p.val / 80)))
          (fun p => warp (fun a b => homo V (ix3 n a b)) 1 (centre (p.val % 80)) (centre (p.val / 80))))
        (Ideal.ofBits FTy.f32 1157627904#32) := by
  refine (lossOf_at _ _ _).trans ?_
  unfold rowLoss
  simp only [dist_at, near_at, v55_at V hC hX]

/-- A run of the reference leaves the two results in its outputs, and its inputs as they were. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v237) = lossOf (res_main_v219 (launchContents m c)) (res_main_v64 (launchContents m c)) (res_main_v55 (launchContents m c))
      ∧ r.2.mem ((c.tc : Thread nD τ).loc main_v202) = res_main_v202 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.Proof.Ref

end
-- ==== Proof.Ref.Agree.lean ====
/- The reference's results are the specification's, where the arguments are views. -/
module

public import proofs.«01_k».proof.Proof.Ref.Value
public import proofs.«01_k».proof.Proof.Views

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- The descriptors. -/
theorem descs_eq (h : Views (kps V) (map1 V) (map2 V) (homo V) (mask V)) : (res_main_v202 V : S1024x64.Idx → EReal) = descriptors (kps V) (map1 V) := by
  funext i
  obtain ⟨k, e, rfl⟩ : ∃ (k : Fin 1024) (e : Fin 64), i = ix2 k e := ⟨i 0, i 1, by funext a; match a with | 0 => rfl | 1 => rfl⟩
  exact v202_at V k e (inRange_of_finite (h.batch k) (h.row k) (h.col k))

/-- The loss. -/
theorem loss_eq (h : Views (kps V) (map1 V) (map2 V) (homo V) (mask V)) :
    lossOf (res_main_v219 V) (res_main_v64 V) (res_main_v55 V) = fun _ => meanLoss (kps V) (map1 V) (map2 V) (homo V) (mask V) := by
  funext i
  obtain rfl : i = ix0 := funext fun a => a.elim0
  refine (loss_at V (C := fun n y x => mask V (ix4 n 0 ⟨y.val * 8, by omega⟩ ⟨x.val * 8, by omega⟩)) (fun n y x => (h.corner n y x).sq) h.cell).trans ?_
  unfold meanLoss lossAt
  refine congrArg (fun s => Ideal.div s _) (Finset.sum_congr rfl fun n _ => Finset.sum_congr rfl fun k _ => ?_)
  exact congrArg (fun D => rowLoss D _ _ _ _ _ _) (funext fun e => congrFun (descs_eq V h) (ix2 k e))

end Cert.Proof.Ref

end
-- ==== Proof.Bits.Frame.lean ====
/- The frame of the program as printed: it is the program of the ideal reading with other names, so the frame
   proved of that one, for any values of the floats, is a frame of this one. -/
module

public import proofs.«01_k».proof.Proof.Ideal.Table
public import proofs.«01_k».proof.Proof.Range
public import proofs.«01_k».proof.Proof.Gen.Kernel
public import proofs.«01_k».proof.Defs

@[expose] public section

set_option maxRecDepth 65536

noncomputable section

namespace Cert.Proof

open Idealize.ShloMosaic Idealize.ShloMosaic.TcCoe Idealize.SL.Sem

set_option maxHeartbeats 8000000 in
/-- The table of bodies is the same: at its one label, the same body. -/
theorem defs₀_same : Cert.Kernel.defs₀ (F := Bits)
    = (show Defs Cert.Kernel.nD Cert.Kernel.τ Cert.Kernel.sig (Elt Bits) Cert.Kernel.Λ₀ from Cert.KernelIdeal.defs₀ (F := Bits)) := by
  unfold Cert.Kernel.defs₀ Cert.KernelIdeal.defs₀
  apply congrArg Defs.onTc
  funext l x
  match l, x with
  | 0, (t, s) => rfl

/-- So the table with the pipeline's labels is. -/
theorem defs_same : Cert.Kernel.defs (F := Bits)
    = (show Defs Cert.Kernel.nD Cert.Kernel.τ Cert.Kernel.sig (Elt Bits) (Pipeline.Sig Cert.Kernel.Λ₀ (Fin 1) fun p => (Cert.Kernel.pcfgs (F := Bits) p).Adm)
        from Cert.KernelIdeal.defs (F := Bits)) := by
  unfold Cert.Kernel.defs
  rw [defs₀_same]
  rfl

set_option maxHeartbeats 8000000 in
/-- The host's part and the call of the region are. -/
theorem main_same : Cert.Kernel.main (F := Bits)
    = (show Dev Cert.Kernel.nD → Prog (TpuEff Cert.Kernel.nD Cert.Kernel.τ Cert.Kernel.sig (Elt Bits) (Pipeline.Sig Cert.Kernel.Λ₀ (Fin 1) fun p => (Cert.Kernel.pcfgs (F := Bits) p).Adm) .tc) PUnit
        from Cert.KernelIdeal.main (F := Bits)) := rfl

set_option maxHeartbeats 8000000 in
/-- The program as printed ends, its arguments as they were and its counters at zero. -/
theorem quiescent_bits : Cert.quiescent_Kernel := fun m g h => by
  rw [defs_same, main_same]
  exact KernelIdeal.frame (F := Bits) m g trivial (KernelIdeal.inMap_of m (inRange_of_bits _ _ _ _ _ (h 0)))

end Cert.Proof

end
-- ==== Proof.lean ====
/- The claims of this certificate: the three frames, that the ideal program is the kernel, and that it computes what the reference does. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_taps_in_map
public import proofs.«01_k».proof.Proof.Gen.Pre_finite_views
public import proofs.«01_k».proof.Proof.Ideal.Result
public import proofs.«01_k».proof.Proof.Ref.Agree
public import proofs.«01_k».proof.Proof.Range
public import proofs.«01_k».proof.Proof.Bits.Frame

@[expose] public section

noncomputable section

namespace Cert.Proof

open Idealize.ShloMosaic Idealize.ShloMosaic.TcCoe Idealize.SL.Sem

/-- The ideal program's frame. -/
theorem quiescent_ideal : Cert.quiescent_KernelIdeal := fun m g h =>
  KernelIdeal.frame (F := Ideal) m g trivial (KernelIdeal.inMap_of m (inRange_of_bits _ _ _ _ _ (h 0)))

/-- The reference's frame: its run leaves the arguments as they were, and it has no semaphore. -/
theorem quiescent_ref : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The precondition's words say that the arguments are views. -/
theorem seen_of_bits {m : (ℓ : Loc Cert.KernelIdeal.nD Cert.KernelIdeal.τ Cert.KernelIdeal.sig) → Buf (Elt Ideal) ℓ} (h : Cert.Pre_KernelIdeal_finite_views m) : KernelIdeal.Seen m :=
  views_of_bits _ _ _ _ _ (h 0)

/-- The frames again, on views. -/
theorem quiescent_ideal_views : Cert.quiescent_KernelIdeal_pre_finite_views := fun m g h =>
  KernelIdeal.frame (F := Ideal) m g trivial (seen_of_bits h).inMap
theorem quiescent_ref_views : Cert.quiescent_ReferenceIdeal_pre_finite_views := fun m g _ => quiescent_ref m g trivial

/-- The two programs leave the same loss and the same descriptors. -/
theorem algebraic : Cert.algebraic_KernelIdeal_ReferenceIdeal_pre_finite_views := fun m g m' g' h e => by
  have s := seen_of_bits h
  refine ⟨fun _ => fun _ => meanLoss (KernelIdeal.kps m) (KernelIdeal.arg1 m 0) (KernelIdeal.arg2 m 0) (KernelIdeal.arg3 m 0) (KernelIdeal.arg4 m 0),
    fun _ => descriptors (KernelIdeal.kps m) (KernelIdeal.arg1 m 0), KernelIdeal.run_results m s g, ?_⟩
  refine (θ_run Cert.ReferenceIdeal.defs _ _).mono (fun r p c => ?_) (Ref.run_results m' g')
  obtain rfl : c = 0 := Subsingleton.elim (α := Fin 1) _ _
  obtain ⟨e0, e1, e2, e3, e4⟩ := e 0
  have k0 : Ref.kps (StableHlo.launchContents m' 0) = KernelIdeal.kps m := e0
  have k1 : Ref.map1 (StableHlo.launchContents m' 0) = KernelIdeal.arg1 m 0 := e1
  have k2 : Ref.map2 (StableHlo.launchContents m' 0) = KernelIdeal.arg2 m 0 := e2
  have k3 : Ref.homo (StableHlo.launchContents m' 0) = KernelIdeal.arg3 m 0 := e3
  have k4 : Ref.mask (StableHlo.launchContents m' 0) = KernelIdeal.arg4 m 0 := e4
  unfold KernelIdeal.Seen at s
  rw [← k0, ← k1, ← k2, ← k3, ← k4] at s
  rw [← k0, ← k1, ← k2, ← k3, ← k4]
  exact ⟨(p 0).1.trans (Ref.loss_eq _ s), (p 0).2.1.trans (Ref.descs_eq _ s), (p 0).2.2⟩

/-- The claims. -/
theorem claim : Cert.Claim :=
  ⟨Cert.Kernel.Gen.facts, Cert.KernelIdeal.Gen.facts, Cert.ReferenceIdeal.Gen.facts, Cert.Pre_taps_in_map.Gen.facts, Cert.Pre_finite_views.Gen.facts,
    quiescent_bits, quiescent_ideal, quiescent_ideal_views, quiescent_ref, quiescent_ref_views, trivial, algebraic⟩

end Cert.Proof

end
